-- ==== Defs.lean ====
def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutprojKernel (m : (ℓ : Loc Cert.OutprojKernel.nD Cert.OutprojKernel.τ Cert.OutprojKernel.sig) → Buf (Elt Bits) ℓ) : Prop :=
  True

def Pre_OutprojKernelIdeal (m : (ℓ : Loc Cert.OutprojKernelIdeal.nD Cert.OutprojKernelIdeal.τ Cert.OutprojKernelIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_OutGateKernel (m : (ℓ : Loc Cert.OutGateKernel.nD Cert.OutGateKernel.τ Cert.OutGateKernel.sig) → Buf (Elt Bits) ℓ) : Prop :=
  True

def Pre_OutGateKernelIdeal (m : (ℓ : Loc Cert.OutGateKernelIdeal.nD Cert.OutGateKernelIdeal.τ Cert.OutGateKernelIdeal.sig) → Buf (Elt Ideal) ℓ) : Prop :=
  True

def Pre_OutGateReferenceIdeal (m : (ℓ : Loc Cert.OutGateReferenceIdeal.nD Cert.OutGateReferenceIdeal.τ Cert.OutGateReferenceIdeal.sig) → Buf (Elt Ideal) ℓ) : Prop :=
  True

def Pre_IfKernel (m : (ℓ : Loc Cert.IfKernel.nD Cert.IfKernel.τ Cert.IfKernel.sig) → Buf (Elt Bits) ℓ) : Prop :=
  True

def Pre_IfKernelIdeal (m : (ℓ : Loc Cert.IfKernelIdeal.nD Cert.IfKernelIdeal.τ Cert.IfKernelIdeal.sig) → Buf (Elt Ideal) ℓ) : Prop :=
  True

def Pre_IfReferenceIdeal (m : (ℓ : Loc Cert.IfReferenceIdeal.nD Cert.IfReferenceIdeal.τ Cert.IfReferenceIdeal.sig) → Buf (Elt Ideal) ℓ) : Prop :=
  True

def Pre_QbKernel (m : (ℓ : Loc Cert.QbKernel.nD Cert.QbKernel.τ Cert.QbKernel.sig) → Buf (Elt Bits) ℓ) : Prop :=
  True

def Pre_QbKernelIdeal (m : (ℓ : Loc Cert.QbKernelIdeal.nD Cert.QbKernelIdeal.τ Cert.QbKernelIdeal.sig) → Buf (Elt Ideal) ℓ) : Prop :=
  True

def Pre_QbReferenceIdeal (m : (ℓ : Loc Cert.QbReferenceIdeal.nD Cert.QbReferenceIdeal.τ Cert.QbReferenceIdeal.sig) → Buf (Elt Ideal) ℓ) : Prop :=
  True

def Pre_KbKernel (m : (ℓ : Loc Cert.KbKernel.nD Cert.KbKernel.τ Cert.KbKernel.sig) → Buf (Elt Bits) ℓ) : Prop :=
  True

def Pre_KbKernelIdeal (m : (ℓ : Loc Cert.KbKernelIdeal.nD Cert.KbKernelIdeal.τ Cert.KbKernelIdeal.sig) → Buf (Elt Ideal) ℓ) : Prop :=
  True

def Pre_KbReferenceIdeal (m : (ℓ : Loc Cert.KbReferenceIdeal.nD Cert.KbReferenceIdeal.τ Cert.KbReferenceIdeal.sig) → Buf (Elt Ideal) ℓ) : Prop :=
  True

def Pre_VbKernel (m : (ℓ : Loc Cert.VbKernel.nD Cert.VbKernel.τ Cert.VbKernel.sig) → Buf (Elt Bits) ℓ) : Prop :=
  True

def Pre_VbKernelIdeal (m : (ℓ : Loc Cert.VbKernelIdeal.nD Cert.VbKernelIdeal.τ Cert.VbKernelIdeal.sig) → Buf (Elt Ideal) ℓ) : Prop :=
  True

def Pre_VbReferenceIdeal (m : (ℓ : Loc Cert.VbReferenceIdeal.nD Cert.VbReferenceIdeal.τ Cert.VbReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MlstmKernel (m : (ℓ : Loc Cert.MlstmKernel.nD Cert.MlstmKernel.τ Cert.MlstmKernel.sig) → Buf (Elt Bits) ℓ) : Prop :=
  True

def Pre_MlstmKernelIdeal (m : (ℓ : Loc Cert.MlstmKernelIdeal.nD Cert.MlstmKernelIdeal.τ Cert.MlstmKernelIdeal.sig) → Buf (Elt Ideal) ℓ) : Prop :=
  True

def Pre_MlstmReferenceIdeal (m : (ℓ : Loc Cert.MlstmReferenceIdeal.nD Cert.MlstmReferenceIdeal.τ Cert.MlstmReferenceIdeal.sig) → Buf (Elt Ideal) ℓ) : Prop :=
  True

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_OutprojKernel [hOutprojKernel : Cert.OutprojKernel.Facts] : Prop :=
  ∀ (m : (ℓ : Loc Cert.OutprojKernel.nD Cert.OutprojKernel.τ Cert.OutprojKernel.sig) → Buf (Elt Bits) ℓ) (g : Dev Cert.OutprojKernel.nD → PrngReg), Pre_OutprojKernel m →
    θ_run (Cert.OutprojKernel.defs (F := Bits)) (onTc (τ := Cert.OutprojKernel.τ) (Cert.OutprojKernel.main (F := Bits))) ⟨m, fun _ => 0, g⟩ (fun r => (∀ c : Dev Cert.OutprojKernel.nD,
      r.2.mem ((c.tc : Thread Cert.OutprojKernel.nD Cert.OutprojKernel.τ).loc Cert.OutprojKernel.main_arg0) = m ((c.tc : Thread Cert.OutprojKernel.nD Cert.OutprojKernel.τ).loc Cert.OutprojKernel.main_arg0)
      ∧ r.2.mem ((c.tc : Thread Cert.OutprojKernel.nD Cert.OutprojKernel.τ).loc Cert.OutprojKernel.main_arg1) = m ((c.tc : Thread Cert.OutprojKernel.nD Cert.OutprojKernel.τ).loc Cert.OutprojKernel.main_arg1)
      ∧ r.2.mem ((c.tc : Thread Cert.OutprojKernel.nD Cert.OutprojKernel.τ).loc Cert.OutprojKernel.main_arg2) = m ((c.tc : Thread Cert.OutprojKernel.nD Cert.OutprojKernel.τ).loc Cert.OutprojKernel.main_arg2)
      ∧ r.2.mem ((c.tc : Thread Cert.OutprojKernel.nD Cert.OutprojKernel.τ).loc Cert.OutprojKernel.main_arg3) = m ((c.tc : Thread Cert.OutprojKernel.nD Cert.OutprojKernel.τ).loc Cert.OutprojKernel.main_arg3))
      ∧ r.2.sem = fun _ => 0)

def quiescent_OutprojKernelIdeal [hOutprojKernelIdeal : Cert.OutprojKernelIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg), Pre_OutprojKernelIdeal m →
    θ_run (Cert.OutprojKernelIdeal.defs (F := Ideal)) (onTc (τ := Cert.OutprojKernelIdeal.τ) (Cert.OutprojKernelIdeal.main (F := Ideal))) ⟨m, fun _ => 0, g⟩ (fun r => (∀ c : Dev Cert.OutprojKernelIdeal.nD,
      r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
      ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
      ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
      ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_OutGateKernel [hOutGateKernel : Cert.OutGateKernel.Facts] : Prop :=
  ∀ (m : (ℓ : Loc Cert.OutGateKernel.nD Cert.OutGateKernel.τ Cert.OutGateKernel.sig) → Buf (Elt Bits) ℓ) (g : Dev Cert.OutGateKernel.nD → PrngReg), Pre_OutGateKernel m →
    θ_run (Cert.OutGateKernel.defs (F := Bits)) (onTc (τ := Cert.OutGateKernel.τ) (Cert.OutGateKernel.main (F := Bits))) ⟨m, fun _ => 0, g⟩ (fun r => (∀ c : Dev Cert.OutGateKernel.nD,
      r.2.mem ((c.tc : Thread Cert.OutGateKernel.nD Cert.OutGateKernel.τ).loc Cert.OutGateKernel.main_arg0) = m ((c.tc : Thread Cert.OutGateKernel.nD Cert.OutGateKernel.τ).loc Cert.OutGateKernel.main_arg0)
      ∧ r.2.mem ((c.tc : Thread Cert.OutGateKernel.nD Cert.OutGateKernel.τ).loc Cert.OutGateKernel.main_arg1) = m ((c.tc : Thread Cert.OutGateKernel.nD Cert.OutGateKernel.τ).loc Cert.OutGateKernel.main_arg1))
      ∧ r.2.sem = fun _ => 0)

def quiescent_OutGateKernelIdeal [hOutGateKernelIdeal : Cert.OutGateKernelIdeal.Facts] : Prop :=
  ∀ (m : (ℓ : Loc Cert.OutGateKernelIdeal.nD Cert.OutGateKernelIdeal.τ Cert.OutGateKernelIdeal.sig) → Buf (Elt Ideal) ℓ) (g : Dev Cert.OutGateKernelIdeal.nD → PrngReg), Pre_OutGateKernelIdeal m →
    θ_run (Cert.OutGateKernelIdeal.defs (F := Ideal)) (onTc (τ := Cert.OutGateKernelIdeal.τ) (Cert.OutGateKernelIdeal.main (F := Ideal))) ⟨m, fun _ => 0, g⟩ (fun r => (∀ c : Dev Cert.OutGateKernelIdeal.nD,
      r.2.mem ((c.tc : Thread Cert.OutGateKernelIdeal.nD Cert.OutGateKernelIdeal.τ).loc Cert.OutGateKernelIdeal.main_arg0) = m ((c.tc : Thread Cert.OutGateKernelIdeal.nD Cert.OutGateKernelIdeal.τ).loc Cert.OutGateKernelIdeal.main_arg0)
      ∧ r.2.mem ((c.tc : Thread Cert.OutGateKernelIdeal.nD Cert.OutGateKernelIdeal.τ).loc Cert.OutGateKernelIdeal.main_arg1) = m ((c.tc : Thread Cert.OutGateKernelIdeal.nD Cert.OutGateKernelIdeal.τ).loc Cert.OutGateKernelIdeal.main_arg1))
      ∧ r.2.sem = fun _ => 0)

def quiescent_OutGateReferenceIdeal [hOutGateReferenceIdeal : Cert.OutGateReferenceIdeal.Facts] : Prop :=
  ∀ (m : (ℓ : Loc Cert.OutGateReferenceIdeal.nD Cert.OutGateReferenceIdeal.τ Cert.OutGateReferenceIdeal.sig) → Buf (Elt Ideal) ℓ) (g : Dev Cert.OutGateReferenceIdeal.nD → PrngReg), Pre_OutGateReferenceIdeal m →
    θ_run (Cert.OutGateReferenceIdeal.defs (F := Ideal)) (onTc (τ := Cert.OutGateReferenceIdeal.τ) (Cert.OutGateReferenceIdeal.main (F := Ideal))) ⟨m, fun _ => 0, g⟩ (fun r => (∀ c : Dev Cert.OutGateReferenceIdeal.nD,
      r.2.mem ((c.tc : Thread Cert.OutGateReferenceIdeal.nD Cert.OutGateReferenceIdeal.τ).loc Cert.OutGateReferenceIdeal.main_arg0) = m ((c.tc : Thread Cert.OutGateReferenceIdeal.nD Cert.OutGateReferenceIdeal.τ).loc Cert.OutGateReferenceIdeal.main_arg0)
      ∧ r.2.mem ((c.tc : Thread Cert.OutGateReferenceIdeal.nD Cert.OutGateReferenceIdeal.τ).loc Cert.OutGateReferenceIdeal.main_arg1) = m ((c.tc : Thread Cert.OutGateReferenceIdeal.nD Cert.OutGateReferenceIdeal.τ).loc Cert.OutGateReferenceIdeal.main_arg1))
      ∧ r.2.sem = fun _ => 0)

def quiescent_IfKernel [hIfKernel : Cert.IfKernel.Facts] : Prop :=
  ∀ (m : (ℓ : Loc Cert.IfKernel.nD Cert.IfKernel.τ Cert.IfKernel.sig) → Buf (Elt Bits) ℓ) (g : Dev Cert.IfKernel.nD → PrngReg), Pre_IfKernel m →
    θ_run (Cert.IfKernel.defs (F := Bits)) (onTc (τ := Cert.IfKernel.τ) (Cert.IfKernel.main (F := Bits))) ⟨m, fun _ => 0, g⟩ (fun r => (∀ c : Dev Cert.IfKernel.nD,
      r.2.mem ((c.tc : Thread Cert.IfKernel.nD Cert.IfKernel.τ).loc Cert.IfKernel.main_arg0) = m ((c.tc : Thread Cert.IfKernel.nD Cert.IfKernel.τ).loc Cert.IfKernel.main_arg0)
      ∧ r.2.mem ((c.tc : Thread Cert.IfKernel.nD Cert.IfKernel.τ).loc Cert.IfKernel.main_arg1) = m ((c.tc : Thread Cert.IfKernel.nD Cert.IfKernel.τ).loc Cert.IfKernel.main_arg1))
      ∧ r.2.sem = fun _ => 0)

def quiescent_IfKernelIdeal [hIfKernelIdeal : Cert.IfKernelIdeal.Facts] : Prop :=
  ∀ (m : (ℓ : Loc Cert.IfKernelIdeal.nD Cert.IfKernelIdeal.τ Cert.IfKernelIdeal.sig) → Buf (Elt Ideal) ℓ) (g : Dev Cert.IfKernelIdeal.nD → PrngReg), Pre_IfKernelIdeal m →
    θ_run (Cert.IfKernelIdeal.defs (F := Ideal)) (onTc (τ := Cert.IfKernelIdeal.τ) (Cert.IfKernelIdeal.main (F := Ideal))) ⟨m, fun _ => 0, g⟩ (fun r => (∀ c : Dev Cert.IfKernelIdeal.nD,
      r.2.mem ((c.tc : Thread Cert.IfKernelIdeal.nD Cert.IfKernelIdeal.τ).loc Cert.IfKernelIdeal.main_arg0) = m ((c.tc : Thread Cert.IfKernelIdeal.nD Cert.IfKernelIdeal.τ).loc Cert.IfKernelIdeal.main_arg0)
      ∧ r.2.mem ((c.tc : Thread Cert.IfKernelIdeal.nD Cert.IfKernelIdeal.τ).loc Cert.IfKernelIdeal.main_arg1) = m ((c.tc : Thread Cert.IfKernelIdeal.nD Cert.IfKernelIdeal.τ).loc Cert.IfKernelIdeal.main_arg1))
      ∧ r.2.sem = fun _ => 0)

def quiescent_IfReferenceIdeal [hIfReferenceIdeal : Cert.IfReferenceIdeal.Facts] : Prop :=
  ∀ (m : (ℓ : Loc Cert.IfReferenceIdeal.nD Cert.IfReferenceIdeal.τ Cert.IfReferenceIdeal.sig) → Buf (Elt Ideal) ℓ) (g : Dev Cert.IfReferenceIdeal.nD → PrngReg), Pre_IfReferenceIdeal m →
    θ_run (Cert.IfReferenceIdeal.defs (F := Ideal)) (onTc (τ := Cert.IfReferenceIdeal.τ) (Cert.IfReferenceIdeal.main (F := Ideal))) ⟨m, fun _ => 0, g⟩ (fun r => (∀ c : Dev Cert.IfReferenceIdeal.nD,
      r.2.mem ((c.tc : Thread Cert.IfReferenceIdeal.nD Cert.IfReferenceIdeal.τ).loc Cert.IfReferenceIdeal.main_arg0) = m ((c.tc : Thread Cert.IfReferenceIdeal.nD Cert.IfReferenceIdeal.τ).loc Cert.IfReferenceIdeal.main_arg0)
      ∧ r.2.mem ((c.tc : Thread Cert.IfReferenceIdeal.nD Cert.IfReferenceIdeal.τ).loc Cert.IfReferenceIdeal.main_arg1) = m ((c.tc : Thread Cert.IfReferenceIdeal.nD Cert.IfReferenceIdeal.τ).loc Cert.IfReferenceIdeal.main_arg1))
      ∧ r.2.sem = fun _ => 0)

def quiescent_QbKernel [hQbKernel : Cert.QbKernel.Facts] : Prop :=
  ∀ (m : (ℓ : Loc Cert.QbKernel.nD Cert.QbKernel.τ Cert.QbKernel.sig) → Buf (Elt Bits) ℓ) (g : Dev Cert.QbKernel.nD → PrngReg), Pre_QbKernel m →
    θ_run (Cert.QbKernel.defs (F := Bits)) (onTc (τ := Cert.QbKernel.τ) (Cert.QbKernel.main (F := Bits))) ⟨m, fun _ => 0, g⟩ (fun r => (∀ c : Dev Cert.QbKernel.nD,
      r.2.mem ((c.tc : Thread Cert.QbKernel.nD Cert.QbKernel.τ).loc Cert.QbKernel.main_arg0) = m ((c.tc : Thread Cert.QbKernel.nD Cert.QbKernel.τ).loc Cert.QbKernel.main_arg0)
      ∧ r.2.mem ((c.tc : Thread Cert.QbKernel.nD Cert.QbKernel.τ).loc Cert.QbKernel.main_arg1) = m ((c.tc : Thread Cert.QbKernel.nD Cert.QbKernel.τ).loc Cert.QbKernel.main_arg1)
      ∧ r.2.mem ((c.tc : Thread Cert.QbKernel.nD Cert.QbKernel.τ).loc Cert.QbKernel.main_arg2) = m ((c.tc : Thread Cert.QbKernel.nD Cert.QbKernel.τ).loc Cert.QbKernel.main_arg2))
      ∧ r.2.sem = fun _ => 0)

def quiescent_QbKernelIdeal [hQbKernelIdeal : Cert.QbKernelIdeal.Facts] : Prop :=
  ∀ (m : (ℓ : Loc Cert.QbKernelIdeal.nD Cert.QbKernelIdeal.τ Cert.QbKernelIdeal.sig) → Buf (Elt Ideal) ℓ) (g : Dev Cert.QbKernelIdeal.nD → PrngReg), Pre_QbKernelIdeal m →
    θ_run (Cert.QbKernelIdeal.defs (F := Ideal)) (onTc (τ := Cert.QbKernelIdeal.τ) (Cert.QbKernelIdeal.main (F := Ideal))) ⟨m, fun _ => 0, g⟩ (fun r => (∀ c : Dev Cert.QbKernelIdeal.nD,
      r.2.mem ((c.tc : Thread Cert.QbKernelIdeal.nD Cert.QbKernelIdeal.τ).loc Cert.QbKernelIdeal.main_arg0) = m ((c.tc : Thread Cert.QbKernelIdeal.nD Cert.QbKernelIdeal.τ).loc Cert.QbKernelIdeal.main_arg0)
      ∧ r.2.mem ((c.tc : Thread Cert.QbKernelIdeal.nD Cert.QbKernelIdeal.τ).loc Cert.QbKernelIdeal.main_arg1) = m ((c.tc : Thread Cert.QbKernelIdeal.nD Cert.QbKernelIdeal.τ).loc Cert.QbKernelIdeal.main_arg1)
      ∧ r.2.mem ((c.tc : Thread Cert.QbKernelIdeal.nD Cert.QbKernelIdeal.τ).loc Cert.QbKernelIdeal.main_arg2) = m ((c.tc : Thread Cert.QbKernelIdeal.nD Cert.QbKernelIdeal.τ).loc Cert.QbKernelIdeal.main_arg2))
      ∧ r.2.sem = fun _ => 0)

def quiescent_QbReferenceIdeal [hQbReferenceIdeal : Cert.QbReferenceIdeal.Facts] : Prop :=
  ∀ (m : (ℓ : Loc Cert.QbReferenceIdeal.nD Cert.QbReferenceIdeal.τ Cert.QbReferenceIdeal.sig) → Buf (Elt Ideal) ℓ) (g : Dev Cert.QbReferenceIdeal.nD → PrngReg), Pre_QbReferenceIdeal m →
    θ_run (Cert.QbReferenceIdeal.defs (F := Ideal)) (onTc (τ := Cert.QbReferenceIdeal.τ) (Cert.QbReferenceIdeal.main (F := Ideal))) ⟨m, fun _ => 0, g⟩ (fun r => (∀ c : Dev Cert.QbReferenceIdeal.nD,
      r.2.mem ((c.tc : Thread Cert.QbReferenceIdeal.nD Cert.QbReferenceIdeal.τ).loc Cert.QbReferenceIdeal.main_arg0) = m ((c.tc : Thread Cert.QbReferenceIdeal.nD Cert.QbReferenceIdeal.τ).loc Cert.QbReferenceIdeal.main_arg0)
      ∧ r.2.mem ((c.tc : Thread Cert.QbReferenceIdeal.nD Cert.QbReferenceIdeal.τ).loc Cert.QbReferenceIdeal.main_arg1) = m ((c.tc : Thread Cert.QbReferenceIdeal.nD Cert.QbReferenceIdeal.τ).loc Cert.QbReferenceIdeal.main_arg1)
      ∧ r.2.mem ((c.tc : Thread Cert.QbReferenceIdeal.nD Cert.QbReferenceIdeal.τ).loc Cert.QbReferenceIdeal.main_arg2) = m ((c.tc : Thread Cert.QbReferenceIdeal.nD Cert.QbReferenceIdeal.τ).loc Cert.QbReferenceIdeal.main_arg2))
      ∧ r.2.sem = fun _ => 0)

def quiescent_KbKernel [hKbKernel : Cert.KbKernel.Facts] : Prop :=
  ∀ (m : (ℓ : Loc Cert.KbKernel.nD Cert.KbKernel.τ Cert.KbKernel.sig) → Buf (Elt Bits) ℓ) (g : Dev Cert.KbKernel.nD → PrngReg), Pre_KbKernel m →
    θ_run (Cert.KbKernel.defs (F := Bits)) (onTc (τ := Cert.KbKernel.τ) (Cert.KbKernel.main (F := Bits))) ⟨m, fun _ => 0, g⟩ (fun r => (∀ c : Dev Cert.KbKernel.nD,
      r.2.mem ((c.tc : Thread Cert.KbKernel.nD Cert.KbKernel.τ).loc Cert.KbKernel.main_arg0) = m ((c.tc : Thread Cert.KbKernel.nD Cert.KbKernel.τ).loc Cert.KbKernel.main_arg0)
      ∧ r.2.mem ((c.tc : Thread Cert.KbKernel.nD Cert.KbKernel.τ).loc Cert.KbKernel.main_arg1) = m ((c.tc : Thread Cert.KbKernel.nD Cert.KbKernel.τ).loc Cert.KbKernel.main_arg1)
      ∧ r.2.mem ((c.tc : Thread Cert.KbKernel.nD Cert.KbKernel.τ).loc Cert.KbKernel.main_arg2) = m ((c.tc : Thread Cert.KbKernel.nD Cert.KbKernel.τ).loc Cert.KbKernel.main_arg2))
      ∧ r.2.sem = fun _ => 0)

def quiescent_KbKernelIdeal [hKbKernelIdeal : Cert.KbKernelIdeal.Facts] : Prop :=
  ∀ (m : (ℓ : Loc Cert.KbKernelIdeal.nD Cert.KbKernelIdeal.τ Cert.KbKernelIdeal.sig) → Buf (Elt Ideal) ℓ) (g : Dev Cert.KbKernelIdeal.nD → PrngReg), Pre_KbKernelIdeal m →
    θ_run (Cert.KbKernelIdeal.defs (F := Ideal)) (onTc (τ := Cert.KbKernelIdeal.τ) (Cert.KbKernelIdeal.main (F := Ideal))) ⟨m, fun _ => 0, g⟩ (fun r => (∀ c : Dev Cert.KbKernelIdeal.nD,
      r.2.mem ((c.tc : Thread Cert.KbKernelIdeal.nD Cert.KbKernelIdeal.τ).loc Cert.KbKernelIdeal.main_arg0) = m ((c.tc : Thread Cert.KbKernelIdeal.nD Cert.KbKernelIdeal.τ).loc Cert.KbKernelIdeal.main_arg0)
      ∧ r.2.mem ((c.tc : Thread Cert.KbKernelIdeal.nD Cert.KbKernelIdeal.τ).loc Cert.KbKernelIdeal.main_arg1) = m ((c.tc : Thread Cert.KbKernelIdeal.nD Cert.KbKernelIdeal.τ).loc Cert.KbKernelIdeal.main_arg1)
      ∧ r.2.mem ((c.tc : Thread Cert.KbKernelIdeal.nD Cert.KbKernelIdeal.τ).loc Cert.KbKernelIdeal.main_arg2) = m ((c.tc : Thread Cert.KbKernelIdeal.nD Cert.KbKernelIdeal.τ).loc Cert.KbKernelIdeal.main_arg2))
      ∧ r.2.sem = fun _ => 0)

def quiescent_KbReferenceIdeal [hKbReferenceIdeal : Cert.KbReferenceIdeal.Facts] : Prop :=
  ∀ (m : (ℓ : Loc Cert.KbReferenceIdeal.nD Cert.KbReferenceIdeal.τ Cert.KbReferenceIdeal.sig) → Buf (Elt Ideal) ℓ) (g : Dev Cert.KbReferenceIdeal.nD → PrngReg), Pre_KbReferenceIdeal m →
    θ_run (Cert.KbReferenceIdeal.defs (F := Ideal)) (onTc (τ := Cert.KbReferenceIdeal.τ) (Cert.KbReferenceIdeal.main (F := Ideal))) ⟨m, fun _ => 0, g⟩ (fun r => (∀ c : Dev Cert.KbReferenceIdeal.nD,
      r.2.mem ((c.tc : Thread Cert.KbReferenceIdeal.nD Cert.KbReferenceIdeal.τ).loc Cert.KbReferenceIdeal.main_arg0) = m ((c.tc : Thread Cert.KbReferenceIdeal.nD Cert.KbReferenceIdeal.τ).loc Cert.KbReferenceIdeal.main_arg0)
      ∧ r.2.mem ((c.tc : Thread Cert.KbReferenceIdeal.nD Cert.KbReferenceIdeal.τ).loc Cert.KbReferenceIdeal.main_arg1) = m ((c.tc : Thread Cert.KbReferenceIdeal.nD Cert.KbReferenceIdeal.τ).loc Cert.KbReferenceIdeal.main_arg1)
      ∧ r.2.mem ((c.tc : Thread Cert.KbReferenceIdeal.nD Cert.KbReferenceIdeal.τ).loc Cert.KbReferenceIdeal.main_arg2) = m ((c.tc : Thread Cert.KbReferenceIdeal.nD Cert.KbReferenceIdeal.τ).loc Cert.KbReferenceIdeal.main_arg2))
      ∧ r.2.sem = fun _ => 0)

def quiescent_VbKernel [hVbKernel : Cert.VbKernel.Facts] : Prop :=
  ∀ (m : (ℓ : Loc Cert.VbKernel.nD Cert.VbKernel.τ Cert.VbKernel.sig) → Buf (Elt Bits) ℓ) (g : Dev Cert.VbKernel.nD → PrngReg), Pre_VbKernel m →
    θ_run (Cert.VbKernel.defs (F := Bits)) (onTc (τ := Cert.VbKernel.τ) (Cert.VbKernel.main (F := Bits))) ⟨m, fun _ => 0, g⟩ (fun r => (∀ c : Dev Cert.VbKernel.nD,
      r.2.mem ((c.tc : Thread Cert.VbKernel.nD Cert.VbKernel.τ).loc Cert.VbKernel.main_arg0) = m ((c.tc : Thread Cert.VbKernel.nD Cert.VbKernel.τ).loc Cert.VbKernel.main_arg0)
      ∧ r.2.mem ((c.tc : Thread Cert.VbKernel.nD Cert.VbKernel.τ).loc Cert.VbKernel.main_arg1) = m ((c.tc : Thread Cert.VbKernel.nD Cert.VbKernel.τ).loc Cert.VbKernel.main_arg1))
      ∧ r.2.sem = fun _ => 0)

def quiescent_VbKernelIdeal [hVbKernelIdeal : Cert.VbKernelIdeal.Facts] : Prop :=
  ∀ (m : (ℓ : Loc Cert.VbKernelIdeal.nD Cert.VbKernelIdeal.τ Cert.VbKernelIdeal.sig) → Buf (Elt Ideal) ℓ) (g : Dev Cert.VbKernelIdeal.nD → PrngReg), Pre_VbKernelIdeal m →
    θ_run (Cert.VbKernelIdeal.defs (F := Ideal)) (onTc (τ := Cert.VbKernelIdeal.τ) (Cert.VbKernelIdeal.main (F := Ideal))) ⟨m, fun _ => 0, g⟩ (fun r => (∀ c : Dev Cert.VbKernelIdeal.nD,
      r.2.mem ((c.tc : Thread Cert.VbKernelIdeal.nD Cert.VbKernelIdeal.τ).loc Cert.VbKernelIdeal.main_arg0) = m ((c.tc : Thread Cert.VbKernelIdeal.nD Cert.VbKernelIdeal.τ).loc Cert.VbKernelIdeal.main_arg0)
      ∧ r.2.mem ((c.tc : Thread Cert.VbKernelIdeal.nD Cert.VbKernelIdeal.τ).loc Cert.VbKernelIdeal.main_arg1) = m ((c.tc : Thread Cert.VbKernelIdeal.nD Cert.VbKernelIdeal.τ).loc Cert.VbKernelIdeal.main_arg1))
      ∧ r.2.sem = fun _ => 0)

def quiescent_VbReferenceIdeal [hVbReferenceIdeal : Cert.VbReferenceIdeal.Facts] : Prop :=
  ∀ (m : (ℓ : Loc Cert.VbReferenceIdeal.nD Cert.VbReferenceIdeal.τ Cert.VbReferenceIdeal.sig) → Buf (Elt Ideal) ℓ) (g : Dev Cert.VbReferenceIdeal.nD → PrngReg), Pre_VbReferenceIdeal m →
    θ_run (Cert.VbReferenceIdeal.defs (F := Ideal)) (onTc (τ := Cert.VbReferenceIdeal.τ) (Cert.VbReferenceIdeal.main (F := Ideal))) ⟨m, fun _ => 0, g⟩ (fun r => (∀ c : Dev Cert.VbReferenceIdeal.nD,
      r.2.mem ((c.tc : Thread Cert.VbReferenceIdeal.nD Cert.VbReferenceIdeal.τ).loc Cert.VbReferenceIdeal.main_arg0) = m ((c.tc : Thread Cert.VbReferenceIdeal.nD Cert.VbReferenceIdeal.τ).loc Cert.VbReferenceIdeal.main_arg0)
      ∧ r.2.mem ((c.tc : Thread Cert.VbReferenceIdeal.nD Cert.VbReferenceIdeal.τ).loc Cert.VbReferenceIdeal.main_arg1) = m ((c.tc : Thread Cert.VbReferenceIdeal.nD Cert.VbReferenceIdeal.τ).loc Cert.VbReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MlstmKernel [hMlstmKernel : Cert.MlstmKernel.Facts] : Prop :=
  ∀ (m : (ℓ : Loc Cert.MlstmKernel.nD Cert.MlstmKernel.τ Cert.MlstmKernel.sig) → Buf (Elt Bits) ℓ) (g : Dev Cert.MlstmKernel.nD → PrngReg), Pre_MlstmKernel m →
    θ_run (Cert.MlstmKernel.defs (F := Bits)) (onTc (τ := Cert.MlstmKernel.τ) (Cert.MlstmKernel.main (F := Bits))) ⟨m, fun _ => 0, g⟩ (fun r => (∀ c : Dev Cert.MlstmKernel.nD,
      r.2.mem ((c.tc : Thread Cert.MlstmKernel.nD Cert.MlstmKernel.τ).loc Cert.MlstmKernel.main_arg0) = m ((c.tc : Thread Cert.MlstmKernel.nD Cert.MlstmKernel.τ).loc Cert.MlstmKernel.main_arg0)
      ∧ r.2.mem ((c.tc : Thread Cert.MlstmKernel.nD Cert.MlstmKernel.τ).loc Cert.MlstmKernel.main_arg1) = m ((c.tc : Thread Cert.MlstmKernel.nD Cert.MlstmKernel.τ).loc Cert.MlstmKernel.main_arg1)
      ∧ r.2.mem ((c.tc : Thread Cert.MlstmKernel.nD Cert.MlstmKernel.τ).loc Cert.MlstmKernel.main_arg2) = m ((c.tc : Thread Cert.MlstmKernel.nD Cert.MlstmKernel.τ).loc Cert.MlstmKernel.main_arg2)
      ∧ r.2.mem ((c.tc : Thread Cert.MlstmKernel.nD Cert.MlstmKernel.τ).loc Cert.MlstmKernel.main_arg3) = m ((c.tc : Thread Cert.MlstmKernel.nD Cert.MlstmKernel.τ).loc Cert.MlstmKernel.main_arg3)
      ∧ r.2.mem ((c.tc : Thread Cert.MlstmKernel.nD Cert.MlstmKernel.τ).loc Cert.MlstmKernel.main_arg4) = m ((c.tc : Thread Cert.MlstmKernel.nD Cert.MlstmKernel.τ).loc Cert.MlstmKernel.main_arg4))
      ∧ r.2.sem = fun _ => 0)

def quiescent_MlstmKernelIdeal [hMlstmKernelIdeal : Cert.MlstmKernelIdeal.Facts] : Prop :=
  ∀ (m : (ℓ : Loc Cert.MlstmKernelIdeal.nD Cert.MlstmKernelIdeal.τ Cert.MlstmKernelIdeal.sig) → Buf (Elt Ideal) ℓ) (g : Dev Cert.MlstmKernelIdeal.nD → PrngReg), Pre_MlstmKernelIdeal m →
    θ_run (Cert.MlstmKernelIdeal.defs (F := Ideal)) (onTc (τ := Cert.MlstmKernelIdeal.τ) (Cert.MlstmKernelIdeal.main (F := Ideal))) ⟨m, fun _ => 0, g⟩ (fun r => (∀ c : Dev Cert.MlstmKernelIdeal.nD,
      r.2.mem ((c.tc : Thread Cert.MlstmKernelIdeal.nD Cert.MlstmKernelIdeal.τ).loc Cert.MlstmKernelIdeal.main_arg0) = m ((c.tc : Thread Cert.MlstmKernelIdeal.nD Cert.MlstmKernelIdeal.τ).loc Cert.MlstmKernelIdeal.main_arg0)
      ∧ r.2.mem ((c.tc : Thread Cert.MlstmKernelIdeal.nD Cert.MlstmKernelIdeal.τ).loc Cert.MlstmKernelIdeal.main_arg1) = m ((c.tc : Thread Cert.MlstmKernelIdeal.nD Cert.MlstmKernelIdeal.τ).loc Cert.MlstmKernelIdeal.main_arg1)
      ∧ r.2.mem ((c.tc : Thread Cert.MlstmKernelIdeal.nD Cert.MlstmKernelIdeal.τ).loc Cert.MlstmKernelIdeal.main_arg2) = m ((c.tc : Thread Cert.MlstmKernelIdeal.nD Cert.MlstmKernelIdeal.τ).loc Cert.MlstmKernelIdeal.main_arg2)
      ∧ r.2.mem ((c.tc : Thread Cert.MlstmKernelIdeal.nD Cert.MlstmKernelIdeal.τ).loc Cert.MlstmKernelIdeal.main_arg3) = m ((c.tc : Thread Cert.MlstmKernelIdeal.nD Cert.MlstmKernelIdeal.τ).loc Cert.MlstmKernelIdeal.main_arg3)
      ∧ r.2.mem ((c.tc : Thread Cert.MlstmKernelIdeal.nD Cert.MlstmKernelIdeal.τ).loc Cert.MlstmKernelIdeal.main_arg4) = m ((c.tc : Thread Cert.MlstmKernelIdeal.nD Cert.MlstmKernelIdeal.τ).loc Cert.MlstmKernelIdeal.main_arg4))
      ∧ r.2.sem = fun _ => 0)

def quiescent_MlstmReferenceIdeal [hMlstmReferenceIdeal : Cert.MlstmReferenceIdeal.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3)
      ∧ r.2.mem ((c.tc : Thread Cert.MlstmReferenceIdeal.nD Cert.MlstmReferenceIdeal.τ).loc Cert.MlstmReferenceIdeal.main_arg4) = m ((c.tc : Thread Cert.MlstmReferenceIdeal.nD Cert.MlstmReferenceIdeal.τ).loc Cert.MlstmReferenceIdeal.main_arg4))
      ∧ r.2.sem = fun _ => 0)

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)) →
    ∃ (v0 : (c : Dev Cert.MlpKernelIdeal.nD) → Buf (Elt Ideal) ((c.tc : Thread Cert.MlpKernelIdeal.nD Cert.MlpKernelIdeal.τ).loc Cert.MlpKernelIdeal.main_v2)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v2) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v5) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)) →
    ∃ (v0 : (c : Dev Cert.MergeKernelIdeal.nD) → Buf (Elt Ideal) ((c.tc : Thread Cert.MergeKernelIdeal.nD Cert.MergeKernelIdeal.τ).loc Cert.MergeKernelIdeal.main_v4)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v4) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_OutprojKernel_OutprojKernelIdeal : Prop :=
  True

def algebraic_OutprojKernelIdeal_OutprojReferenceIdeal [hOutprojKernelIdeal : Cert.OutprojKernelIdeal.Facts] [hOutprojReferenceIdeal : Cert.OutprojReferenceIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojKernelIdeal m →
    (∀ c : Dev Cert.OutprojKernelIdeal.nD,
      m' ((c.tc : Thread Cert.OutprojReferenceIdeal.nD Cert.OutprojReferenceIdeal.τ).loc Cert.OutprojReferenceIdeal.main_arg0) = m ((c.tc : Thread Cert.OutprojKernelIdeal.nD Cert.OutprojKernelIdeal.τ).loc Cert.OutprojKernelIdeal.main_arg0)
      ∧ m' ((c.tc : Thread Cert.OutprojReferenceIdeal.nD Cert.OutprojReferenceIdeal.τ).loc Cert.OutprojReferenceIdeal.main_arg1) = m ((c.tc : Thread Cert.OutprojKernelIdeal.nD Cert.OutprojKernelIdeal.τ).loc Cert.OutprojKernelIdeal.main_arg1)
      ∧ m' ((c.tc : Thread Cert.OutprojReferenceIdeal.nD Cert.OutprojReferenceIdeal.τ).loc Cert.OutprojReferenceIdeal.main_arg2) = m ((c.tc : Thread Cert.OutprojKernelIdeal.nD Cert.OutprojKernelIdeal.τ).loc Cert.OutprojKernelIdeal.main_arg2)
      ∧ m' ((c.tc : Thread Cert.OutprojReferenceIdeal.nD Cert.OutprojReferenceIdeal.τ).loc Cert.OutprojReferenceIdeal.main_arg3) = m ((c.tc : Thread Cert.OutprojKernelIdeal.nD Cert.OutprojKernelIdeal.τ).loc Cert.OutprojKernelIdeal.main_arg3)) →
    ∃ (v0 : (c : Dev Cert.OutprojKernelIdeal.nD) → Buf (Elt Ideal) ((c.tc : Thread Cert.OutprojKernelIdeal.nD Cert.OutprojKernelIdeal.τ).loc Cert.OutprojKernelIdeal.main_v2_0)) (v1 : (c : Dev Cert.OutprojKernelIdeal.nD) → Buf (Elt Ideal) ((c.tc : Thread Cert.OutprojKernelIdeal.nD Cert.OutprojKernelIdeal.τ).loc Cert.OutprojKernelIdeal.main_v2_1)),
      θ_run (Cert.OutprojKernelIdeal.defs (F := Ideal)) (onTc (τ := Cert.OutprojKernelIdeal.τ) (Cert.OutprojKernelIdeal.main (F := Ideal))) ⟨m, fun _ => 0, g⟩ (fun r => ∀ c : Dev Cert.OutprojKernelIdeal.nD,
          r.2.mem ((c.tc : Thread Cert.OutprojKernelIdeal.nD Cert.OutprojKernelIdeal.τ).loc Cert.OutprojKernelIdeal.main_v2_0) = v0 c
          ∧ r.2.mem ((c.tc : Thread Cert.OutprojKernelIdeal.nD Cert.OutprojKernelIdeal.τ).loc Cert.OutprojKernelIdeal.main_v2_1) = v1 c
          ∧ r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
          ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
          ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
          ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v2) = v0 c
          ∧ r.2.mem ((c.tc : Thread Cert.OutprojReferenceIdeal.nD Cert.OutprojReferenceIdeal.τ).loc Cert.OutprojReferenceIdeal.main_v16) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) →
    ∃ (v0 : (c : Dev Cert.QkvKernelIdeal.nD) → Buf (Elt Ideal) ((c.tc : Thread Cert.QkvKernelIdeal.nD Cert.QkvKernelIdeal.τ).loc Cert.QkvKernelIdeal.main_v5)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v5) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v14) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_OutGateKernel_OutGateKernelIdeal : Prop :=
  True

def algebraic_OutGateKernelIdeal_OutGateReferenceIdeal [hOutGateKernelIdeal : Cert.OutGateKernelIdeal.Facts] [hOutGateReferenceIdeal : Cert.OutGateReferenceIdeal.Facts] : Prop :=
  ∀ (m : (ℓ : Loc Cert.OutGateKernelIdeal.nD Cert.OutGateKernelIdeal.τ Cert.OutGateKernelIdeal.sig) → Buf (Elt Ideal) ℓ) (g : Dev Cert.OutGateKernelIdeal.nD → PrngReg)
    (m' : (ℓ : Loc Cert.OutGateReferenceIdeal.nD Cert.OutGateReferenceIdeal.τ Cert.OutGateReferenceIdeal.sig) → Buf (Elt Ideal) ℓ) (g' : Dev Cert.OutGateReferenceIdeal.nD → PrngReg), Pre_OutGateKernelIdeal m →
    (∀ c : Dev Cert.OutGateKernelIdeal.nD,
      m' ((c.tc : Thread Cert.OutGateReferenceIdeal.nD Cert.OutGateReferenceIdeal.τ).loc Cert.OutGateReferenceIdeal.main_arg0) = m ((c.tc : Thread Cert.OutGateKernelIdeal.nD Cert.OutGateKernelIdeal.τ).loc Cert.OutGateKernelIdeal.main_arg0)
      ∧ m' ((c.tc : Thread Cert.OutGateReferenceIdeal.nD Cert.OutGateReferenceIdeal.τ).loc Cert.OutGateReferenceIdeal.main_arg1) = m ((c.tc : Thread Cert.OutGateKernelIdeal.nD Cert.OutGateKernelIdeal.τ).loc Cert.OutGateKernelIdeal.main_arg1)) →
    ∃ (v0 : (c : Dev Cert.OutGateKernelIdeal.nD) → Buf (Elt Ideal) ((c.tc : Thread Cert.OutGateKernelIdeal.nD Cert.OutGateKernelIdeal.τ).loc Cert.OutGateKernelIdeal.main_v2)),
      θ_run (Cert.OutGateKernelIdeal.defs (F := Ideal)) (onTc (τ := Cert.OutGateKernelIdeal.τ) (Cert.OutGateKernelIdeal.main (F := Ideal))) ⟨m, fun _ => 0, g⟩ (fun r => ∀ c : Dev Cert.OutGateKernelIdeal.nD,
          r.2.mem ((c.tc : Thread Cert.OutGateKernelIdeal.nD Cert.OutGateKernelIdeal.τ).loc Cert.OutGateKernelIdeal.main_v2) = v0 c
          ∧ r.2.mem ((c.tc : Thread Cert.OutGateKernelIdeal.nD Cert.OutGateKernelIdeal.τ).loc Cert.OutGateKernelIdeal.main_arg0) = m ((c.tc : Thread Cert.OutGateKernelIdeal.nD Cert.OutGateKernelIdeal.τ).loc Cert.OutGateKernelIdeal.main_arg0)
          ∧ r.2.mem ((c.tc : Thread Cert.OutGateKernelIdeal.nD Cert.OutGateKernelIdeal.τ).loc Cert.OutGateKernelIdeal.main_arg1) = m ((c.tc : Thread Cert.OutGateKernelIdeal.nD Cert.OutGateKernelIdeal.τ).loc Cert.OutGateKernelIdeal.main_arg1))
      ∧ θ_run (Cert.OutGateReferenceIdeal.defs (F := Ideal)) (onTc (τ := Cert.OutGateReferenceIdeal.τ) (Cert.OutGateReferenceIdeal.main (F := Ideal))) ⟨m', fun _ => 0, g'⟩ (fun r => ∀ c : Dev Cert.OutGateReferenceIdeal.nD,
          r.2.mem ((c.tc : Thread Cert.OutGateReferenceIdeal.nD Cert.OutGateReferenceIdeal.τ).loc Cert.OutGateReferenceIdeal.main_v16) = v0 c
          ∧ r.2.mem ((c.tc : Thread Cert.OutGateReferenceIdeal.nD Cert.OutGateReferenceIdeal.τ).loc Cert.OutGateReferenceIdeal.main_arg0) = m' ((c.tc : Thread Cert.OutGateReferenceIdeal.nD Cert.OutGateReferenceIdeal.τ).loc Cert.OutGateReferenceIdeal.main_arg0)
          ∧ r.2.mem ((c.tc : Thread Cert.OutGateReferenceIdeal.nD Cert.OutGateReferenceIdeal.τ).loc Cert.OutGateReferenceIdeal.main_arg1) = m' ((c.tc : Thread Cert.OutGateReferenceIdeal.nD Cert.OutGateReferenceIdeal.τ).loc Cert.OutGateReferenceIdeal.main_arg1))

def preserves_IfKernel_IfKernelIdeal : Prop :=
  True

def algebraic_IfKernelIdeal_IfReferenceIdeal [hIfKernelIdeal : Cert.IfKernelIdeal.Facts] [hIfReferenceIdeal : Cert.IfReferenceIdeal.Facts] : Prop :=
  ∀ (m : (ℓ : Loc Cert.IfKernelIdeal.nD Cert.IfKernelIdeal.τ Cert.IfKernelIdeal.sig) → Buf (Elt Ideal) ℓ) (g : Dev Cert.IfKernelIdeal.nD → PrngReg)
    (m' : (ℓ : Loc Cert.IfReferenceIdeal.nD Cert.IfReferenceIdeal.τ Cert.IfReferenceIdeal.sig) → Buf (Elt Ideal) ℓ) (g' : Dev Cert.IfReferenceIdeal.nD → PrngReg), Pre_IfKernelIdeal m →
    (∀ c : Dev Cert.IfKernelIdeal.nD,
      m' ((c.tc : Thread Cert.IfReferenceIdeal.nD Cert.IfReferenceIdeal.τ).loc Cert.IfReferenceIdeal.main_arg0) = m ((c.tc : Thread Cert.IfKernelIdeal.nD Cert.IfKernelIdeal.τ).loc Cert.IfKernelIdeal.main_arg0)
      ∧ m' ((c.tc : Thread Cert.IfReferenceIdeal.nD Cert.IfReferenceIdeal.τ).loc Cert.IfReferenceIdeal.main_arg1) = m ((c.tc : Thread Cert.IfKernelIdeal.nD Cert.IfKernelIdeal.τ).loc Cert.IfKernelIdeal.main_arg1)) →
    ∃ (v0 : (c : Dev Cert.IfKernelIdeal.nD) → Buf (Elt Ideal) ((c.tc : Thread Cert.IfKernelIdeal.nD Cert.IfKernelIdeal.τ).loc Cert.IfKernelIdeal.main_v3)),
      θ_run (Cert.IfKernelIdeal.defs (F := Ideal)) (onTc (τ := Cert.IfKernelIdeal.τ) (Cert.IfKernelIdeal.main (F := Ideal))) ⟨m, fun _ => 0, g⟩ (fun r => ∀ c : Dev Cert.IfKernelIdeal.nD,
          r.2.mem ((c.tc : Thread Cert.IfKernelIdeal.nD Cert.IfKernelIdeal.τ).loc Cert.IfKernelIdeal.main_v3) = v0 c
          ∧ r.2.mem ((c.tc : Thread Cert.IfKernelIdeal.nD Cert.IfKernelIdeal.τ).loc Cert.IfKernelIdeal.main_arg0) = m ((c.tc : Thread Cert.IfKernelIdeal.nD Cert.IfKernelIdeal.τ).loc Cert.IfKernelIdeal.main_arg0)
          ∧ r.2.mem ((c.tc : Thread Cert.IfKernelIdeal.nD Cert.IfKernelIdeal.τ).loc Cert.IfKernelIdeal.main_arg1) = m ((c.tc : Thread Cert.IfKernelIdeal.nD Cert.IfKernelIdeal.τ).loc Cert.IfKernelIdeal.main_arg1))
      ∧ θ_run (Cert.IfReferenceIdeal.defs (F := Ideal)) (onTc (τ := Cert.IfReferenceIdeal.τ) (Cert.IfReferenceIdeal.main (F := Ideal))) ⟨m', fun _ => 0, g'⟩ (fun r => ∀ c : Dev Cert.IfReferenceIdeal.nD,
          r.2.mem ((c.tc : Thread Cert.IfReferenceIdeal.nD Cert.IfReferenceIdeal.τ).loc Cert.IfReferenceIdeal.main_v12) = v0 c
          ∧ r.2.mem ((c.tc : Thread Cert.IfReferenceIdeal.nD Cert.IfReferenceIdeal.τ).loc Cert.IfReferenceIdeal.main_arg0) = m' ((c.tc : Thread Cert.IfReferenceIdeal.nD Cert.IfReferenceIdeal.τ).loc Cert.IfReferenceIdeal.main_arg0)
          ∧ r.2.mem ((c.tc : Thread Cert.IfReferenceIdeal.nD Cert.IfReferenceIdeal.τ).loc Cert.IfReferenceIdeal.main_arg1) = m' ((c.tc : Thread Cert.IfReferenceIdeal.nD Cert.IfReferenceIdeal.τ).loc Cert.IfReferenceIdeal.main_arg1))

def preserves_QbKernel_QbKernelIdeal : Prop :=
  True

def algebraic_QbKernelIdeal_QbReferenceIdeal [hQbKernelIdeal : Cert.QbKernelIdeal.Facts] [hQbReferenceIdeal : Cert.QbReferenceIdeal.Facts] : Prop :=
  ∀ (m : (ℓ : Loc Cert.QbKernelIdeal.nD Cert.QbKernelIdeal.τ Cert.QbKernelIdeal.sig) → Buf (Elt Ideal) ℓ) (g : Dev Cert.QbKernelIdeal.nD → PrngReg)
    (m' : (ℓ : Loc Cert.QbReferenceIdeal.nD Cert.QbReferenceIdeal.τ Cert.QbReferenceIdeal.sig) → Buf (Elt Ideal) ℓ) (g' : Dev Cert.QbReferenceIdeal.nD → PrngReg), Pre_QbKernelIdeal m →
    (∀ c : Dev Cert.QbKernelIdeal.nD,
      m' ((c.tc : Thread Cert.QbReferenceIdeal.nD Cert.QbReferenceIdeal.τ).loc Cert.QbReferenceIdeal.main_arg0) = m ((c.tc : Thread Cert.QbKernelIdeal.nD Cert.QbKernelIdeal.τ).loc Cert.QbKernelIdeal.main_arg0)
      ∧ m' ((c.tc : Thread Cert.QbReferenceIdeal.nD Cert.QbReferenceIdeal.τ).loc Cert.QbReferenceIdeal.main_arg1) = m ((c.tc : Thread Cert.QbKernelIdeal.nD Cert.QbKernelIdeal.τ).loc Cert.QbKernelIdeal.main_arg1)
      ∧ m' ((c.tc : Thread Cert.QbReferenceIdeal.nD Cert.QbReferenceIdeal.τ).loc Cert.QbReferenceIdeal.main_arg2) = m ((c.tc : Thread Cert.QbKernelIdeal.nD Cert.QbKernelIdeal.τ).loc Cert.QbKernelIdeal.main_arg2)) →
    ∃ (v0 : (c : Dev Cert.QbKernelIdeal.nD) → Buf (Elt Ideal) ((c.tc : Thread Cert.QbKernelIdeal.nD Cert.QbKernelIdeal.τ).loc Cert.QbKernelIdeal.main_v8)),
      θ_run (Cert.QbKernelIdeal.defs (F := Ideal)) (onTc (τ := Cert.QbKernelIdeal.τ) (Cert.QbKernelIdeal.main (F := Ideal))) ⟨m, fun _ => 0, g⟩ (fun r => ∀ c : Dev Cert.QbKernelIdeal.nD,
          r.2.mem ((c.tc : Thread Cert.QbKernelIdeal.nD Cert.QbKernelIdeal.τ).loc Cert.QbKernelIdeal.main_v8) = v0 c
          ∧ r.2.mem ((c.tc : Thread Cert.QbKernelIdeal.nD Cert.QbKernelIdeal.τ).loc Cert.QbKernelIdeal.main_arg0) = m ((c.tc : Thread Cert.QbKernelIdeal.nD Cert.QbKernelIdeal.τ).loc Cert.QbKernelIdeal.main_arg0)
          ∧ r.2.mem ((c.tc : Thread Cert.QbKernelIdeal.nD Cert.QbKernelIdeal.τ).loc Cert.QbKernelIdeal.main_arg1) = m ((c.tc : Thread Cert.QbKernelIdeal.nD Cert.QbKernelIdeal.τ).loc Cert.QbKernelIdeal.main_arg1)
          ∧ r.2.mem ((c.tc : Thread Cert.QbKernelIdeal.nD Cert.QbKernelIdeal.τ).loc Cert.QbKernelIdeal.main_arg2) = m ((c.tc : Thread Cert.QbKernelIdeal.nD Cert.QbKernelIdeal.τ).loc Cert.QbKernelIdeal.main_arg2))
      ∧ θ_run (Cert.QbReferenceIdeal.defs (F := Ideal)) (onTc (τ := Cert.QbReferenceIdeal.τ) (Cert.QbReferenceIdeal.main (F := Ideal))) ⟨m', fun _ => 0, g'⟩ (fun r => ∀ c : Dev Cert.QbReferenceIdeal.nD,
          r.2.mem ((c.tc : Thread Cert.QbReferenceIdeal.nD Cert.QbReferenceIdeal.τ).loc Cert.QbReferenceIdeal.main_v28) = v0 c
          ∧ r.2.mem ((c.tc : Thread Cert.QbReferenceIdeal.nD Cert.QbReferenceIdeal.τ).loc Cert.QbReferenceIdeal.main_arg0) = m' ((c.tc : Thread Cert.QbReferenceIdeal.nD Cert.QbReferenceIdeal.τ).loc Cert.QbReferenceIdeal.main_arg0)
          ∧ r.2.mem ((c.tc : Thread Cert.QbReferenceIdeal.nD Cert.QbReferenceIdeal.τ).loc Cert.QbReferenceIdeal.main_arg1) = m' ((c.tc : Thread Cert.QbReferenceIdeal.nD Cert.QbReferenceIdeal.τ).loc Cert.QbReferenceIdeal.main_arg1)
          ∧ r.2.mem ((c.tc : Thread Cert.QbReferenceIdeal.nD Cert.QbReferenceIdeal.τ).loc Cert.QbReferenceIdeal.main_arg2) = m' ((c.tc : Thread Cert.QbReferenceIdeal.nD Cert.QbReferenceIdeal.τ).loc Cert.QbReferenceIdeal.main_arg2))

def preserves_KbKernel_KbKernelIdeal : Prop :=
  True

def algebraic_KbKernelIdeal_KbReferenceIdeal [hKbKernelIdeal : Cert.KbKernelIdeal.Facts] [hKbReferenceIdeal : Cert.KbReferenceIdeal.Facts] : Prop :=
  ∀ (m : (ℓ : Loc Cert.KbKernelIdeal.nD Cert.KbKernelIdeal.τ Cert.KbKernelIdeal.sig) → Buf (Elt Ideal) ℓ) (g : Dev Cert.KbKernelIdeal.nD → PrngReg)
    (m' : (ℓ : Loc Cert.KbReferenceIdeal.nD Cert.KbReferenceIdeal.τ Cert.KbReferenceIdeal.sig) → Buf (Elt Ideal) ℓ) (g' : Dev Cert.KbReferenceIdeal.nD → PrngReg), Pre_KbKernelIdeal m →
    (∀ c : Dev Cert.KbKernelIdeal.nD,
      m' ((c.tc : Thread Cert.KbReferenceIdeal.nD Cert.KbReferenceIdeal.τ).loc Cert.KbReferenceIdeal.main_arg0) = m ((c.tc : Thread Cert.KbKernelIdeal.nD Cert.KbKernelIdeal.τ).loc Cert.KbKernelIdeal.main_arg0)
      ∧ m' ((c.tc : Thread Cert.KbReferenceIdeal.nD Cert.KbReferenceIdeal.τ).loc Cert.KbReferenceIdeal.main_arg1) = m ((c.tc : Thread Cert.KbKernelIdeal.nD Cert.KbKernelIdeal.τ).loc Cert.KbKernelIdeal.main_arg1)
      ∧ m' ((c.tc : Thread Cert.KbReferenceIdeal.nD Cert.KbReferenceIdeal.τ).loc Cert.KbReferenceIdeal.main_arg2) = m ((c.tc : Thread Cert.KbKernelIdeal.nD Cert.KbKernelIdeal.τ).loc Cert.KbKernelIdeal.main_arg2)) →
    ∃ (v0 : (c : Dev Cert.KbKernelIdeal.nD) → Buf (Elt Ideal) ((c.tc : Thread Cert.KbKernelIdeal.nD Cert.KbKernelIdeal.τ).loc Cert.KbKernelIdeal.main_v6)),
      θ_run (Cert.KbKernelIdeal.defs (F := Ideal)) (onTc (τ := Cert.KbKernelIdeal.τ) (Cert.KbKernelIdeal.main (F := Ideal))) ⟨m, fun _ => 0, g⟩ (fun r => ∀ c : Dev Cert.KbKernelIdeal.nD,
          r.2.mem ((c.tc : Thread Cert.KbKernelIdeal.nD Cert.KbKernelIdeal.τ).loc Cert.KbKernelIdeal.main_v6) = v0 c
          ∧ r.2.mem ((c.tc : Thread Cert.KbKernelIdeal.nD Cert.KbKernelIdeal.τ).loc Cert.KbKernelIdeal.main_arg0) = m ((c.tc : Thread Cert.KbKernelIdeal.nD Cert.KbKernelIdeal.τ).loc Cert.KbKernelIdeal.main_arg0)
          ∧ r.2.mem ((c.tc : Thread Cert.KbKernelIdeal.nD Cert.KbKernelIdeal.τ).loc Cert.KbKernelIdeal.main_arg1) = m ((c.tc : Thread Cert.KbKernelIdeal.nD Cert.KbKernelIdeal.τ).loc Cert.KbKernelIdeal.main_arg1)
          ∧ r.2.mem ((c.tc : Thread Cert.KbKernelIdeal.nD Cert.KbKernelIdeal.τ).loc Cert.KbKernelIdeal.main_arg2) = m ((c.tc : Thread Cert.KbKernelIdeal.nD Cert.KbKernelIdeal.τ).loc Cert.KbKernelIdeal.main_arg2))
      ∧ θ_run (Cert.KbReferenceIdeal.defs (F := Ideal)) (onTc (τ := Cert.KbReferenceIdeal.τ) (Cert.KbReferenceIdeal.main (F := Ideal))) ⟨m', fun _ => 0, g'⟩ (fun r => ∀ c : Dev Cert.KbReferenceIdeal.nD,
          r.2.mem ((c.tc : Thread Cert.KbReferenceIdeal.nD Cert.KbReferenceIdeal.τ).loc Cert.KbReferenceIdeal.main_v26) = v0 c
          ∧ r.2.mem ((c.tc : Thread Cert.KbReferenceIdeal.nD Cert.KbReferenceIdeal.τ).loc Cert.KbReferenceIdeal.main_arg0) = m' ((c.tc : Thread Cert.KbReferenceIdeal.nD Cert.KbReferenceIdeal.τ).loc Cert.KbReferenceIdeal.main_arg0)
          ∧ r.2.mem ((c.tc : Thread Cert.KbReferenceIdeal.nD Cert.KbReferenceIdeal.τ).loc Cert.KbReferenceIdeal.main_arg1) = m' ((c.tc : Thread Cert.KbReferenceIdeal.nD Cert.KbReferenceIdeal.τ).loc Cert.KbReferenceIdeal.main_arg1)
          ∧ r.2.mem ((c.tc : Thread Cert.KbReferenceIdeal.nD Cert.KbReferenceIdeal.τ).loc Cert.KbReferenceIdeal.main_arg2) = m' ((c.tc : Thread Cert.KbReferenceIdeal.nD Cert.KbReferenceIdeal.τ).loc Cert.KbReferenceIdeal.main_arg2))

def preserves_VbKernel_VbKernelIdeal : Prop :=
  True

def algebraic_VbKernelIdeal_VbReferenceIdeal [hVbKernelIdeal : Cert.VbKernelIdeal.Facts] [hVbReferenceIdeal : Cert.VbReferenceIdeal.Facts] : Prop :=
  ∀ (m : (ℓ : Loc Cert.VbKernelIdeal.nD Cert.VbKernelIdeal.τ Cert.VbKernelIdeal.sig) → Buf (Elt Ideal) ℓ) (g : Dev Cert.VbKernelIdeal.nD → PrngReg)
    (m' : (ℓ : Loc Cert.VbReferenceIdeal.nD Cert.VbReferenceIdeal.τ Cert.VbReferenceIdeal.sig) → Buf (Elt Ideal) ℓ) (g' : Dev Cert.VbReferenceIdeal.nD → PrngReg), Pre_VbKernelIdeal m →
    (∀ c : Dev Cert.VbKernelIdeal.nD,
      m' ((c.tc : Thread Cert.VbReferenceIdeal.nD Cert.VbReferenceIdeal.τ).loc Cert.VbReferenceIdeal.main_arg0) = m ((c.tc : Thread Cert.VbKernelIdeal.nD Cert.VbKernelIdeal.τ).loc Cert.VbKernelIdeal.main_arg0)
      ∧ m' ((c.tc : Thread Cert.VbReferenceIdeal.nD Cert.VbReferenceIdeal.τ).loc Cert.VbReferenceIdeal.main_arg1) = m ((c.tc : Thread Cert.VbKernelIdeal.nD Cert.VbKernelIdeal.τ).loc Cert.VbKernelIdeal.main_arg1)) →
    ∃ (v0 : (c : Dev Cert.VbKernelIdeal.nD) → Buf (Elt Ideal) ((c.tc : Thread Cert.VbKernelIdeal.nD Cert.VbKernelIdeal.τ).loc Cert.VbKernelIdeal.main_v2)),
      θ_run (Cert.VbKernelIdeal.defs (F := Ideal)) (onTc (τ := Cert.VbKernelIdeal.τ) (Cert.VbKernelIdeal.main (F := Ideal))) ⟨m, fun _ => 0, g⟩ (fun r => ∀ c : Dev Cert.VbKernelIdeal.nD,
          r.2.mem ((c.tc : Thread Cert.VbKernelIdeal.nD Cert.VbKernelIdeal.τ).loc Cert.VbKernelIdeal.main_v2) = v0 c
          ∧ r.2.mem ((c.tc : Thread Cert.VbKernelIdeal.nD Cert.VbKernelIdeal.τ).loc Cert.VbKernelIdeal.main_arg0) = m ((c.tc : Thread Cert.VbKernelIdeal.nD Cert.VbKernelIdeal.τ).loc Cert.VbKernelIdeal.main_arg0)
          ∧ r.2.mem ((c.tc : Thread Cert.VbKernelIdeal.nD Cert.VbKernelIdeal.τ).loc Cert.VbKernelIdeal.main_arg1) = m ((c.tc : Thread Cert.VbKernelIdeal.nD Cert.VbKernelIdeal.τ).loc Cert.VbKernelIdeal.main_arg1))
      ∧ θ_run (Cert.VbReferenceIdeal.defs (F := Ideal)) (onTc (τ := Cert.VbReferenceIdeal.τ) (Cert.VbReferenceIdeal.main (F := Ideal))) ⟨m', fun _ => 0, g'⟩ (fun r => ∀ c : Dev Cert.VbReferenceIdeal.nD,
          r.2.mem ((c.tc : Thread Cert.VbReferenceIdeal.nD Cert.VbReferenceIdeal.τ).loc Cert.VbReferenceIdeal.main_v11) = v0 c
          ∧ r.2.mem ((c.tc : Thread Cert.VbReferenceIdeal.nD Cert.VbReferenceIdeal.τ).loc Cert.VbReferenceIdeal.main_arg0) = m' ((c.tc : Thread Cert.VbReferenceIdeal.nD Cert.VbReferenceIdeal.τ).loc Cert.VbReferenceIdeal.main_arg0)
          ∧ r.2.mem ((c.tc : Thread Cert.VbReferenceIdeal.nD Cert.VbReferenceIdeal.τ).loc Cert.VbReferenceIdeal.main_arg1) = m' ((c.tc : Thread Cert.VbReferenceIdeal.nD Cert.VbReferenceIdeal.τ).loc Cert.VbReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MlstmKernel_MlstmKernelIdeal : Prop :=
  True

def algebraic_MlstmKernelIdeal_MlstmReferenceIdeal [hMlstmKernelIdeal : Cert.MlstmKernelIdeal.Facts] [hMlstmReferenceIdeal : Cert.MlstmReferenceIdeal.Facts] : Prop :=
  ∀ (m : (ℓ : Loc Cert.MlstmKernelIdeal.nD Cert.MlstmKernelIdeal.τ Cert.MlstmKernelIdeal.sig) → Buf (Elt Ideal) ℓ) (g : Dev Cert.MlstmKernelIdeal.nD → PrngReg)
    (m' : (ℓ : Loc Cert.MlstmReferenceIdeal.nD Cert.MlstmReferenceIdeal.τ Cert.MlstmReferenceIdeal.sig) → Buf (Elt Ideal) ℓ) (g' : Dev Cert.MlstmReferenceIdeal.nD → PrngReg), Pre_MlstmKernelIdeal m →
    (∀ c : Dev Cert.MlstmKernelIdeal.nD,
      m' ((c.tc : Thread Cert.MlstmReferenceIdeal.nD Cert.MlstmReferenceIdeal.τ).loc Cert.MlstmReferenceIdeal.main_arg0) = m ((c.tc : Thread Cert.MlstmKernelIdeal.nD Cert.MlstmKernelIdeal.τ).loc Cert.MlstmKernelIdeal.main_arg0)
      ∧ m' ((c.tc : Thread Cert.MlstmReferenceIdeal.nD Cert.MlstmReferenceIdeal.τ).loc Cert.MlstmReferenceIdeal.main_arg1) = m ((c.tc : Thread Cert.MlstmKernelIdeal.nD Cert.MlstmKernelIdeal.τ).loc Cert.MlstmKernelIdeal.main_arg1)
      ∧ m' ((c.tc : Thread Cert.MlstmReferenceIdeal.nD Cert.MlstmReferenceIdeal.τ).loc Cert.MlstmReferenceIdeal.main_arg2) = m ((c.tc : Thread Cert.MlstmKernelIdeal.nD Cert.MlstmKernelIdeal.τ).loc Cert.MlstmKernelIdeal.main_arg2)
      ∧ m' ((c.tc : Thread Cert.MlstmReferenceIdeal.nD Cert.MlstmReferenceIdeal.τ).loc Cert.MlstmReferenceIdeal.main_arg3) = m ((c.tc : Thread Cert.MlstmKernelIdeal.nD Cert.MlstmKernelIdeal.τ).loc Cert.MlstmKernelIdeal.main_arg3)
      ∧ m' ((c.tc : Thread Cert.MlstmReferenceIdeal.nD Cert.MlstmReferenceIdeal.τ).loc Cert.MlstmReferenceIdeal.main_arg4) = m ((c.tc : Thread Cert.MlstmKernelIdeal.nD Cert.MlstmKernelIdeal.τ).loc Cert.MlstmKernelIdeal.main_arg4)) →
    ∃ (v0 : (c : Dev Cert.MlstmKernelIdeal.nD) → Buf (Elt Ideal) ((c.tc : Thread Cert.MlstmKernelIdeal.nD Cert.MlstmKernelIdeal.τ).loc Cert.MlstmKernelIdeal.main_v3)),
      θ_run (Cert.MlstmKernelIdeal.defs (F := Ideal)) (onTc (τ := Cert.MlstmKernelIdeal.τ) (Cert.MlstmKernelIdeal.main (F := Ideal))) ⟨m, fun _ => 0, g⟩ (fun r => ∀ c : Dev Cert.MlstmKernelIdeal.nD,
          r.2.mem ((c.tc : Thread Cert.MlstmKernelIdeal.nD Cert.MlstmKernelIdeal.τ).loc Cert.MlstmKernelIdeal.main_v3) = v0 c
          ∧ r.2.mem ((c.tc : Thread Cert.MlstmKernelIdeal.nD Cert.MlstmKernelIdeal.τ).loc Cert.MlstmKernelIdeal.main_arg0) = m ((c.tc : Thread Cert.MlstmKernelIdeal.nD Cert.MlstmKernelIdeal.τ).loc Cert.MlstmKernelIdeal.main_arg0)
          ∧ r.2.mem ((c.tc : Thread Cert.MlstmKernelIdeal.nD Cert.MlstmKernelIdeal.τ).loc Cert.MlstmKernelIdeal.main_arg1) = m ((c.tc : Thread Cert.MlstmKernelIdeal.nD Cert.MlstmKernelIdeal.τ).loc Cert.MlstmKernelIdeal.main_arg1)
          ∧ r.2.mem ((c.tc : Thread Cert.MlstmKernelIdeal.nD Cert.MlstmKernelIdeal.τ).loc Cert.MlstmKernelIdeal.main_arg2) = m ((c.tc : Thread Cert.MlstmKernelIdeal.nD Cert.MlstmKernelIdeal.τ).loc Cert.MlstmKernelIdeal.main_arg2)
          ∧ r.2.mem ((c.tc : Thread Cert.MlstmKernelIdeal.nD Cert.MlstmKernelIdeal.τ).loc Cert.MlstmKernelIdeal.main_arg3) = m ((c.tc : Thread Cert.MlstmKernelIdeal.nD Cert.MlstmKernelIdeal.τ).loc Cert.MlstmKernelIdeal.main_arg3)
          ∧ r.2.mem ((c.tc : Thread Cert.MlstmKernelIdeal.nD Cert.MlstmKernelIdeal.τ).loc Cert.MlstmKernelIdeal.main_arg4) = m ((c.tc : Thread Cert.MlstmKernelIdeal.nD Cert.MlstmKernelIdeal.τ).loc Cert.MlstmKernelIdeal.main_arg4))
      ∧ θ_run (Cert.MlstmReferenceIdeal.defs (F := Ideal)) (onTc (τ := Cert.MlstmReferenceIdeal.τ) (Cert.MlstmReferenceIdeal.main (F := Ideal))) ⟨m', fun _ => 0, g'⟩ (fun r => ∀ c : Dev Cert.MlstmReferenceIdeal.nD,
          r.2.mem ((c.tc : Thread Cert.MlstmReferenceIdeal.nD Cert.MlstmReferenceIdeal.τ).loc Cert.MlstmReferenceIdeal.main_v63) = v0 c
          ∧ r.2.mem ((c.tc : Thread Cert.MlstmReferenceIdeal.nD Cert.MlstmReferenceIdeal.τ).loc Cert.MlstmReferenceIdeal.main_arg0) = m' ((c.tc : Thread Cert.MlstmReferenceIdeal.nD Cert.MlstmReferenceIdeal.τ).loc Cert.MlstmReferenceIdeal.main_arg0)
          ∧ r.2.mem ((c.tc : Thread Cert.MlstmReferenceIdeal.nD Cert.MlstmReferenceIdeal.τ).loc Cert.MlstmReferenceIdeal.main_arg1) = m' ((c.tc : Thread Cert.MlstmReferenceIdeal.nD Cert.MlstmReferenceIdeal.τ).loc Cert.MlstmReferenceIdeal.main_arg1)
          ∧ r.2.mem ((c.tc : Thread Cert.MlstmReferenceIdeal.nD Cert.MlstmReferenceIdeal.τ).loc Cert.MlstmReferenceIdeal.main_arg2) = m' ((c.tc : Thread Cert.MlstmReferenceIdeal.nD Cert.MlstmReferenceIdeal.τ).loc Cert.MlstmReferenceIdeal.main_arg2)
          ∧ r.2.mem ((c.tc : Thread Cert.MlstmReferenceIdeal.nD Cert.MlstmReferenceIdeal.τ).loc Cert.MlstmReferenceIdeal.main_arg3) = m' ((c.tc : Thread Cert.MlstmReferenceIdeal.nD Cert.MlstmReferenceIdeal.τ).loc Cert.MlstmReferenceIdeal.main_arg3)
          ∧ r.2.mem ((c.tc : Thread Cert.MlstmReferenceIdeal.nD Cert.MlstmReferenceIdeal.τ).loc Cert.MlstmReferenceIdeal.main_arg4) = m' ((c.tc : Thread Cert.MlstmReferenceIdeal.nD Cert.MlstmReferenceIdeal.τ).loc Cert.MlstmReferenceIdeal.main_arg4))

def Claim : Prop :=
  ∃ (hMlpKernel : Cert.MlpKernel.Facts) (hMlpKernelIdeal : Cert.MlpKernelIdeal.Facts) (hMlpReferenceIdeal : Cert.MlpReferenceIdeal.Facts) (hMergeKernel : Cert.MergeKernel.Facts) (hMergeKernelIdeal : Cert.MergeKernelIdeal.Facts) (hMergeReferenceIdeal : Cert.MergeReferenceIdeal.Facts) (hOutprojKernel : Cert.OutprojKernel.Facts) (hOutprojKernelIdeal : Cert.OutprojKernelIdeal.Facts) (hOutprojReferenceIdeal : Cert.OutprojReferenceIdeal.Facts) (hQkvKernel : Cert.QkvKernel.Facts) (hQkvKernelIdeal : Cert.QkvKernelIdeal.Facts) (hQkvReferenceIdeal : Cert.QkvReferenceIdeal.Facts) (hOutGateKernel : Cert.OutGateKernel.Facts) (hOutGateKernelIdeal : Cert.OutGateKernelIdeal.Facts) (hOutGateReferenceIdeal : Cert.OutGateReferenceIdeal.Facts) (hIfKernel : Cert.IfKernel.Facts) (hIfKernelIdeal : Cert.IfKernelIdeal.Facts) (hIfReferenceIdeal : Cert.IfReferenceIdeal.Facts) (hQbKernel : Cert.QbKernel.Facts) (hQbKernelIdeal : Cert.QbKernelIdeal.Facts) (hQbReferenceIdeal : Cert.QbReferenceIdeal.Facts) (hKbKernel : Cert.KbKernel.Facts) (hKbKernelIdeal : Cert.KbKernelIdeal.Facts) (hKbReferenceIdeal : Cert.KbReferenceIdeal.Facts) (hVbKernel : Cert.VbKernel.Facts) (hVbKernelIdeal : Cert.VbKernelIdeal.Facts) (hVbReferenceIdeal : Cert.VbReferenceIdeal.Facts) (hNormKernel : Cert.NormKernel.Facts) (hNormKernelIdeal : Cert.NormKernelIdeal.Facts) (hNormReferenceIdeal : Cert.NormReferenceIdeal.Facts) (hMlstmKernel : Cert.MlstmKernel.Facts) (hMlstmKernelIdeal : Cert.MlstmKernelIdeal.Facts) (hMlstmReferenceIdeal : Cert.MlstmReferenceIdeal.Facts),
    quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_OutprojKernel (hOutprojKernel := hOutprojKernel)
    ∧ quiescent_OutprojKernelIdeal (hOutprojKernelIdeal := hOutprojKernelIdeal)
    ∧ quiescent_OutprojReferenceIdeal (hOutprojReferenceIdeal := hOutprojReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_OutGateKernel (hOutGateKernel := hOutGateKernel)
    ∧ quiescent_OutGateKernelIdeal (hOutGateKernelIdeal := hOutGateKernelIdeal)
    ∧ quiescent_OutGateReferenceIdeal (hOutGateReferenceIdeal := hOutGateReferenceIdeal)
    ∧ quiescent_IfKernel (hIfKernel := hIfKernel)
    ∧ quiescent_IfKernelIdeal (hIfKernelIdeal := hIfKernelIdeal)
    ∧ quiescent_IfReferenceIdeal (hIfReferenceIdeal := hIfReferenceIdeal)
    ∧ quiescent_QbKernel (hQbKernel := hQbKernel)
    ∧ quiescent_QbKernelIdeal (hQbKernelIdeal := hQbKernelIdeal)
    ∧ quiescent_QbReferenceIdeal (hQbReferenceIdeal := hQbReferenceIdeal)
    ∧ quiescent_KbKernel (hKbKernel := hKbKernel)
    ∧ quiescent_KbKernelIdeal (hKbKernelIdeal := hKbKernelIdeal)
    ∧ quiescent_KbReferenceIdeal (hKbReferenceIdeal := hKbReferenceIdeal)
    ∧ quiescent_VbKernel (hVbKernel := hVbKernel)
    ∧ quiescent_VbKernelIdeal (hVbKernelIdeal := hVbKernelIdeal)
    ∧ quiescent_VbReferenceIdeal (hVbReferenceIdeal := hVbReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_MlstmKernel (hMlstmKernel := hMlstmKernel)
    ∧ quiescent_MlstmKernelIdeal (hMlstmKernelIdeal := hMlstmKernelIdeal)
    ∧ quiescent_MlstmReferenceIdeal (hMlstmReferenceIdeal := hMlstmReferenceIdeal)
    ∧ preserves_MlpKernel_MlpKernelIdeal
    ∧ algebraic_MlpKernelIdeal_MlpReferenceIdeal (hMlpKernelIdeal := hMlpKernelIdeal) (hMlpReferenceIdeal := hMlpReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_OutprojKernel_OutprojKernelIdeal
    ∧ algebraic_OutprojKernelIdeal_OutprojReferenceIdeal (hOutprojKernelIdeal := hOutprojKernelIdeal) (hOutprojReferenceIdeal := hOutprojReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_OutGateKernel_OutGateKernelIdeal
    ∧ algebraic_OutGateKernelIdeal_OutGateReferenceIdeal (hOutGateKernelIdeal := hOutGateKernelIdeal) (hOutGateReferenceIdeal := hOutGateReferenceIdeal)
    ∧ preserves_IfKernel_IfKernelIdeal
    ∧ algebraic_IfKernelIdeal_IfReferenceIdeal (hIfKernelIdeal := hIfKernelIdeal) (hIfReferenceIdeal := hIfReferenceIdeal)
    ∧ preserves_QbKernel_QbKernelIdeal
    ∧ algebraic_QbKernelIdeal_QbReferenceIdeal (hQbKernelIdeal := hQbKernelIdeal) (hQbReferenceIdeal := hQbReferenceIdeal)
    ∧ preserves_KbKernel_KbKernelIdeal
    ∧ algebraic_KbKernelIdeal_KbReferenceIdeal (hKbKernelIdeal := hKbKernelIdeal) (hKbReferenceIdeal := hKbReferenceIdeal)
    ∧ preserves_VbKernel_VbKernelIdeal
    ∧ algebraic_VbKernelIdeal_VbReferenceIdeal (hVbKernelIdeal := hVbKernelIdeal) (hVbReferenceIdeal := hVbReferenceIdeal)
    ∧ preserves_NormKernel_NormKernelIdeal
    ∧ algebraic_NormKernelIdeal_NormReferenceIdeal (hNormKernelIdeal := hNormKernelIdeal) (hNormReferenceIdeal := hNormReferenceIdeal)
    ∧ preserves_MlstmKernel_MlstmKernelIdeal
    ∧ algebraic_MlstmKernelIdeal_MlstmReferenceIdeal (hMlstmKernelIdeal := hMlstmKernelIdeal) (hMlstmReferenceIdeal := hMlstmReferenceIdeal)
-- ==== MlpKernel.lean ====
abbrev S16384x2048 : Shape := ⟨2, ![16384, 2048]⟩
abbrev S2048x8192 : Shape := ⟨2, ![2048, 8192]⟩
abbrev S8192x2048 : Shape := ⟨2, ![8192, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S8192x2048, .f32⟩
  | .hbm, ⟨3, _⟩ => ⟨S16384x2048, .f32⟩
  | .hbm, ⟨4, _⟩ => ⟨S2048x8192, .bf16⟩
  | .hbm, ⟨5, _⟩ => ⟨S8192x2048, .bf16⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S16384x2048 : Shape := ⟨2, ![16384, 2048]⟩
abbrev S2048x8192 : Shape := ⟨2, ![2048, 8192]⟩
abbrev S8192x2048 : Shape := ⟨2, ![8192, 2048]⟩
abbrev S16384x8192 : Shape := ⟨2, ![16384, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S8192x2048, .f32⟩
  | .hbm, ⟨3, _⟩ => ⟨S16384x2048, .f32⟩
  | .hbm, ⟨4, _⟩ => ⟨S16384x2048, .f32⟩
  | .hbm, ⟨5, _⟩ => ⟨S16384x8192, .f32⟩
  | .hbm, ⟨6, _⟩ => ⟨S_, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S16384x2048, .f32⟩
  | .hbm, ⟨11, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== MergeKernel.lean ====
abbrev S16384x2048 : Shape := ⟨2, ![16384, 2048]⟩
abbrev S16384x1024 : Shape := ⟨2, ![16384, 1024]⟩
abbrev S2048x10248 : Shape := ⟨2, ![2048, 10248]⟩
abbrev S1024x2048 : Shape := ⟨2, ![1024, 2048]⟩
abbrev S2048x4096 : Shape := ⟨2, ![2048, 4096]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 11
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2048x10248, .f32⟩
  | .hbm, ⟨4, _⟩ => ⟨S1024x2048, .f32⟩
  | .hbm, ⟨5, _⟩ => ⟨S1024x2048, .f32⟩
  | .hbm, ⟨6, _⟩ => ⟨S2048x4096, .f32⟩
  | .hbm, ⟨7, _⟩ => ⟨S2048x4096, .bf16⟩
  | .hbm, ⟨8, _⟩ => ⟨S1024x2048, .bf16⟩
  | .hbm, ⟨9, _⟩ => ⟨S1024x2048, .bf16⟩
  | .hbm, ⟨10, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeReferenceIdeal.lean ====
abbrev S16384x2048 : Shape := ⟨2, ![16384, 2048]⟩
abbrev S16384x1024 : Shape := ⟨2, ![16384, 1024]⟩
abbrev S2048x10248 : Shape := ⟨2, ![2048, 10248]⟩
abbrev S1024x2048 : Shape := ⟨2, ![1024, 2048]⟩
abbrev S16384x10248 : Shape := ⟨2, ![16384, 10248]⟩
abbrev S16384x512 : Shape := ⟨2, ![16384, 512]⟩
abbrev S16384x8 : Shape := ⟨2, ![16384, 8]⟩
abbrev S16384x4096 : Shape := ⟨2, ![16384, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x1024, .bf16⟩
  | .hbm, ⟨3, _⟩ => ⟨S2048x10248, .f32⟩
  | .hbm, ⟨4, _⟩ => ⟨S1024x2048, .f32⟩
  | .hbm, ⟨5, _⟩ => ⟨S1024x2048, .f32⟩
  | .hbm, ⟨6, _⟩ => ⟨S16384x2048, .f32⟩
  | .hbm, ⟨7, _⟩ => ⟨S16384x10248, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x8, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x2048, .f32⟩
  | .hbm, ⟨26, _⟩ => ⟨S16384x1024, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x1024, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== OutprojKernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== QkvKernel.lean ====
abbrev S16384x2048 : Shape := ⟨2, ![16384, 2048]⟩
abbrev S2048x10248 : Shape := ⟨2, ![2048, 10248]⟩
abbrev S_ : Shape := ⟨0, ![]⟩
abbrev S1x512 : Shape := ⟨2, ![1, 512]⟩
abbrev S1x1536 : Shape := ⟨2, ![1, 1536]⟩
abbrev S1x2048 : Shape := ⟨2, ![1, 2048]⟩
abbrev S2048x2048 : Shape := ⟨2, ![2048, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S_, .f32⟩
  | .hbm, ⟨3, _⟩ => ⟨S1x512, .f32⟩
  | .hbm, ⟨4, _⟩ => ⟨S_, .f32⟩
  | .hbm, ⟨5, _⟩ => ⟨S1x1536, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvReferenceIdeal.lean ====
abbrev S16384x2048 : Shape := ⟨2, ![16384, 2048]⟩
abbrev S2048x10248 : Shape := ⟨2, ![2048, 10248]⟩
abbrev S16384x10248 : Shape := ⟨2, ![16384, 10248]⟩
abbrev S16384x512 : Shape := ⟨2, ![16384, 512]⟩
abbrev S16384x1024 : Shape := ⟨2, ![16384, 1024]⟩
abbrev S16384x8 : Shape := ⟨2, ![16384, 8]⟩
abbrev S16384x4096 : Shape := ⟨2, ![16384, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S16384x2048, .f32⟩
  | .hbm, ⟨3, _⟩ => ⟨S16384x10248, .f32⟩
  | .hbm, ⟨4, _⟩ => ⟨S16384x512, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S16384x8, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x4096, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x2048, .f32⟩
  | .hbm, ⟨17, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== OutGateKernel.lean ====
abbrev S16384x2048 : Shape := ⟨2, ![16384, 2048]⟩
abbrev S2048x10248 : Shape := ⟨2, ![2048, 10248]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S2048x1024, .f32⟩
  | .hbm, ⟨3, _⟩ => ⟨S2048x1024, .bf16⟩
  | .hbm, ⟨4, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutGateReferenceIdeal.lean ====
abbrev S16384x2048 : Shape := ⟨2, ![16384, 2048]⟩
abbrev S2048x10248 : Shape := ⟨2, ![2048, 10248]⟩
abbrev S16384x10248 : Shape := ⟨2, ![16384, 10248]⟩
abbrev S16384x512 : Shape := ⟨2, ![16384, 512]⟩
abbrev S16384x1024 : Shape := ⟨2, ![16384, 1024]⟩
abbrev S16384x8 : Shape := ⟨2, ![16384, 8]⟩
abbrev S16384x4096 : Shape := ⟨2, ![16384, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S16384x2048, .f32⟩
  | .hbm, ⟨3, _⟩ => ⟨S16384x10248, .f32⟩
  | .hbm, ⟨4, _⟩ => ⟨S16384x512, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S16384x8, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x4096, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== IfKernel.lean ====
abbrev S16384x2048 : Shape := ⟨2, ![16384, 2048]⟩
abbrev S2048x10248 : Shape := ⟨2, ![2048, 10248]⟩
abbrev S2048x8 : Shape := ⟨2, ![2048, 8]⟩
abbrev S_ : Shape := ⟨0, ![]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 8
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S2048x8, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== IfReferenceIdeal.lean ====
abbrev S16384x2048 : Shape := ⟨2, ![16384, 2048]⟩
abbrev S2048x10248 : Shape := ⟨2, ![2048, 10248]⟩
abbrev S16384x10248 : Shape := ⟨2, ![16384, 10248]⟩
abbrev S16384x512 : Shape := ⟨2, ![16384, 512]⟩
abbrev S16384x1024 : Shape := ⟨2, ![16384, 1024]⟩
abbrev S16384x8 : Shape := ⟨2, ![16384, 8]⟩
abbrev S16384x4096 : Shape := ⟨2, ![16384, 4096]⟩
abbrev S_ : Shape := ⟨0, ![]⟩
abbrev S16384x120 : Shape := ⟨2, ![16384, 120]⟩
abbrev S16384x128 : Shape := ⟨2, ![16384, 128]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S16384x2048, .f32⟩
  | .hbm, ⟨3, _⟩ => ⟨S16384x10248, .f32⟩
  | .hbm, ⟨4, _⟩ => ⟨S16384x512, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S16384x8, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x4096, .f32⟩
  | .hbm, ⟨13, _⟩ => ⟨S_, .f32⟩
  | .hbm, ⟨14, _⟩ => ⟨S16384x120, .f32⟩
  | .hbm, ⟨15, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== QbKernel.lean ====
abbrev S16384x2048 : Shape := ⟨2, ![16384, 2048]⟩
abbrev S2048x10248 : Shape := ⟨2, ![2048, 10248]⟩
abbrev S128 : Shape := ⟨1, ![128]⟩
abbrev S2048x1024 : Shape := ⟨2, ![2048, 1024]⟩
abbrev S1x128 : Shape := ⟨2, ![1, 128]⟩
abbrev S8x128 : Shape := ⟨2, ![8, 128]⟩
abbrev S1024 : Shape := ⟨1, ![1024]⟩
abbrev S_ : Shape := ⟨0, ![]⟩
abbrev S1x1024 : Shape := ⟨2, ![1, 1024]⟩
abbrev S16384x1024 : Shape := ⟨2, ![16384, 1024]⟩
abbrev S1024x2048 : Shape := ⟨2, ![1024, 2048]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 13
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S128, .f32⟩
  | .hbm, ⟨3, _⟩ => ⟨S2048x1024, .f32⟩
  | .hbm, ⟨4, _⟩ => ⟨S2048x1024, .bf16⟩
  | .hbm, ⟨5, _⟩ => ⟨S1x128, .f32⟩
  | .hbm, ⟨6, _⟩ => ⟨S8x128, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QbReferenceIdeal.lean ====
abbrev S16384x2048 : Shape := ⟨2, ![16384, 2048]⟩
abbrev S2048x10248 : Shape := ⟨2, ![2048, 10248]⟩
abbrev S128 : Shape := ⟨1, ![128]⟩
abbrev S16384x10248 : Shape := ⟨2, ![16384, 10248]⟩
abbrev S16384x512 : Shape := ⟨2, ![16384, 512]⟩
abbrev S16384x1024 : Shape := ⟨2, ![16384, 1024]⟩
abbrev S16384x8 : Shape := ⟨2, ![16384, 8]⟩
abbrev S16384x4096 : Shape := ⟨2, ![16384, 4096]⟩
abbrev S16384x8x128 : Shape := ⟨3, ![16384, 8, 128]⟩
abbrev S_ : Shape := ⟨0, ![]⟩
abbrev S16384x8x1 : Shape := ⟨3, ![16384, 8, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S128, .f32⟩
  | .hbm, ⟨3, _⟩ => ⟨S16384x2048, .f32⟩
  | .hbm, ⟨4, _⟩ => ⟨S16384x10248, .f32⟩
  | .hbm, ⟨5, _⟩ => ⟨S16384x512, .f32⟩
  | .hbm, ⟨6, _⟩ => ⟨S16384x512, .f32⟩
  | .hbm, ⟨7, _⟩ => ⟨S16384x1024, .f32⟩
  | .hbm, ⟨8, _⟩ => ⟨S16384x1024, .f32⟩
  | .hbm, ⟨9, _⟩ => ⟨S16384x8, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x4096, .f32⟩
  | .hbm, ⟨14, _⟩ => ⟨S16384x8x128, .f32⟩
  | .hbm, ⟨15, _⟩ => ⟨S16384x8x128, .f32⟩
  | .hbm, ⟨16, _⟩ => ⟨S_, .f32⟩
  | .hbm, ⟨17, _⟩ => ⟨S16384x8, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x1, .f32⟩
  | .hbm, ⟨26, _⟩ => ⟨S16384x8x128, .f32⟩
  | .hbm, ⟨27, _⟩ => ⟨S16384x8x128, .f32⟩
  | .hbm, ⟨28, _⟩ => ⟨S1x1x128, .f32⟩
  | .hbm, ⟨29, _⟩ => ⟨S16384x8x128, .f32⟩
  | .hbm, ⟨30, _⟩ => ⟨S16384x8x128, .f32⟩
  | .hbm, ⟨31, _⟩ => ⟨S_, .f32⟩
  | .hbm, ⟨32, _⟩ => ⟨S16384x8x128, .f32⟩
  | .hbm, ⟨33, _⟩ => ⟨S16384x8x128, .f32⟩
  | .hbm, ⟨34, _⟩ => ⟨S16384x1024, .f32⟩
  | .hbm, ⟨35, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== KbKernel.lean ====
abbrev S16384x2048 : Shape := ⟨2, ![16384, 2048]⟩
abbrev S2048x10248 : Shape := ⟨2, ![2048, 10248]⟩
abbrev S128 : Shape := ⟨1, ![128]⟩
abbrev S2048x1024 : Shape := ⟨2, ![2048, 1024]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S16384x1024 : Shape := ⟨2, ![16384, 1024]⟩
abbrev S1024x2048 : Shape := ⟨2, ![1024, 2048]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 10
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S128, .f32⟩
  | .hbm, ⟨3, _⟩ => ⟨S2048x1024, .f32⟩
  | .hbm, ⟨4, _⟩ => ⟨S2048x1024, .bf16⟩
  | .hbm, ⟨5, _⟩ => ⟨S1x128, .f32⟩
  | .hbm, ⟨6, _⟩ => ⟨S8x128, .f32⟩
  | .hbm, ⟨7, _⟩ => ⟨S1024, .f32⟩
  | .hbm, ⟨8, _⟩ => ⟨S1x1024, .f32⟩
  | .hbm, ⟨9, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KbReferenceIdeal.lean ====
abbrev S16384x2048 : Shape := ⟨2, ![16384, 2048]⟩
abbrev S2048x10248 : Shape := ⟨2, ![2048, 10248]⟩
abbrev S128 : Shape := ⟨1, ![128]⟩
abbrev S16384x10248 : Shape := ⟨2, ![16384, 10248]⟩
abbrev S16384x512 : Shape := ⟨2, ![16384, 512]⟩
abbrev S16384x1024 : Shape := ⟨2, ![16384, 1024]⟩
abbrev S16384x8 : Shape := ⟨2, ![16384, 8]⟩
abbrev S16384x4096 : Shape := ⟨2, ![16384, 4096]⟩
abbrev S16384x8x128 : Shape := ⟨3, ![16384, 8, 128]⟩
abbrev S_ : Shape := ⟨0, ![]⟩
abbrev S16384x8x1 : Shape := ⟨3, ![16384, 8, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S128, .f32⟩
  | .hbm, ⟨3, _⟩ => ⟨S16384x2048, .f32⟩
  | .hbm, ⟨4, _⟩ => ⟨S16384x10248, .f32⟩
  | .hbm, ⟨5, _⟩ => ⟨S16384x512, .f32⟩
  | .hbm, ⟨6, _⟩ => ⟨S16384x512, .f32⟩
  | .hbm, ⟨7, _⟩ => ⟨S16384x1024, .f32⟩
  | .hbm, ⟨8, _⟩ => ⟨S16384x1024, .f32⟩
  | .hbm, ⟨9, _⟩ => ⟨S16384x8, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x4096, .f32⟩
  | .hbm, ⟨14, _⟩ => ⟨S16384x8x128, .f32⟩
  | .hbm, ⟨15, _⟩ => ⟨S16384x8x128, .f32⟩
  | .hbm, ⟨16, _⟩ => ⟨S_, .f32⟩
  | .hbm, ⟨17, _⟩ => ⟨S16384x8, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x1, .f32⟩
  | .hbm, ⟨26, _⟩ => ⟨S16384x8x128, .f32⟩
  | .hbm, ⟨27, _⟩ => ⟨S16384x8x128, .f32⟩
  | .hbm, ⟨28, _⟩ => ⟨S1x1x128, .f32⟩
  | .hbm, ⟨29, _⟩ => ⟨S16384x8x128, .f32⟩
  | .hbm, ⟨30, _⟩ => ⟨S16384x8x128, .f32⟩
  | .hbm, ⟨31, _⟩ => ⟨S16384x1024, .f32⟩
  | .hbm, ⟨32, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== VbKernel.lean ====
abbrev S16384x2048 : Shape := ⟨2, ![16384, 2048]⟩
abbrev S2048x10248 : Shape := ⟨2, ![2048, 10248]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S2048x1024, .f32⟩
  | .hbm, ⟨3, _⟩ => ⟨S2048x1024, .bf16⟩
  | .hbm, ⟨4, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VbReferenceIdeal.lean ====
abbrev S16384x2048 : Shape := ⟨2, ![16384, 2048]⟩
abbrev S2048x10248 : Shape := ⟨2, ![2048, 10248]⟩
abbrev S16384x10248 : Shape := ⟨2, ![16384, 10248]⟩
abbrev S16384x512 : Shape := ⟨2, ![16384, 512]⟩
abbrev S16384x1024 : Shape := ⟨2, ![16384, 1024]⟩
abbrev S16384x8 : Shape := ⟨2, ![16384, 8]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x10248, .f32⟩
  | .hbm, ⟨2, _⟩ => ⟨S16384x2048, .f32⟩
  | .hbm, ⟨3, _⟩ => ⟨S16384x10248, .f32⟩
  | .hbm, ⟨4, _⟩ => ⟨S16384x512, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S16384x8, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x4096, .f32⟩
  | .hbm, ⟨13, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== NormKernel.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MlstmKernel.lean ====
abbrev S16384x2048 : Shape := ⟨2, ![16384, 2048]⟩
abbrev S16384x128 : Shape := ⟨2, ![16384, 128]⟩
abbrev S8 : Shape := ⟨1, ![8]⟩
abbrev S16384x1024 : Shape := ⟨2, ![16384, 1024]⟩
abbrev S1024 : Shape := ⟨1, ![1024]⟩
abbrev S_ : Shape := ⟨0, ![]⟩
abbrev S128 : Shape := ⟨1, ![128]⟩
abbrev S1x128 : Shape := ⟨2, ![1, 128]⟩
abbrev S1x1024 : Shape := ⟨2, ![1, 1024]⟩
abbrev S128x512 : Shape := ⟨2, ![128, 512]⟩
abbrev S128x1024 : Shape := ⟨2, ![128, 1024]⟩
abbrev S128x128 : Shape := ⟨2, ![128, 128]⟩
abbrev S4x128x256 : Shape := ⟨3, ![4, 128, 256]⟩
abbrev S8x128 : Shape := ⟨2, ![8, 128]⟩
abbrev S128x256 : Shape := ⟨2, ![128, 256]⟩
abbrev S128x1 : Shape := ⟨2, ![128, 1]⟩
abbrev S1x1 : Shape := ⟨2, ![1, 1]⟩
abbrev S1x128x256 : Shape := ⟨3, ![1, 128, 256]⟩
abbrev S1x256 : Shape := ⟨2, ![1, 256]⟩
abbrev S1 : Shape := ⟨1, ![1]⟩

abbrev nBuf : Space → Nat
  | .hbm => 11
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S16384x128, .f32⟩
  | .hbm, ⟨2, _⟩ => ⟨S8, .f32⟩
  | .hbm, ⟨3, _⟩ => ⟨S16384x1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S1x1024, .f32⟩
  | .hbm, ⟨10, _⟩ => ⟨S16384x1024, .bf16⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x1024, .f32⟩
  | .local _ .vmem, ⟨10, _⟩ => ⟨S128x1024, .f32⟩
  | .local _ .vmem, ⟨11, _⟩ => ⟨S1x1024, .f32⟩
  | .local _ .vmem, ⟨12, _⟩ => ⟨S128x1024, .bf16⟩
  | .local _ .vmem, ⟨13, _⟩ => ⟨S128x1024, .bf16⟩
  | .local _ .vmem, ⟨14, _⟩ => ⟨S4x128x256, .f32⟩
  | .local _ .vmem, ⟨15, _⟩ => ⟨S8x128, .f32⟩
  | .local _ .vmem, ⟨16, _⟩ => ⟨S8x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlstmReferenceIdeal.lean ====
abbrev S16384x2048 : Shape := ⟨2, ![16384, 2048]⟩
abbrev S16384x128 : Shape := ⟨2, ![16384, 128]⟩
abbrev S8 : Shape := ⟨1, ![8]⟩
abbrev S16384x1024 : Shape := ⟨2, ![16384, 1024]⟩
abbrev S1024 : Shape := ⟨1, ![1024]⟩
abbrev S16384x512 : Shape := ⟨2, ![16384, 512]⟩
abbrev S16384x8 : Shape := ⟨2, ![16384, 8]⟩
abbrev S1x16384x8 : Shape := ⟨3, ![1, 16384, 8]⟩
abbrev S1x1x8 : Shape := ⟨3, ![1, 1, 8]⟩
abbrev S_ : Shape := ⟨0, ![]⟩
abbrev S1x16384x4 : Shape := ⟨3, ![1, 16384, 4]⟩
abbrev S1x4x16384 : Shape := ⟨3, ![1, 4, 16384]⟩
abbrev S1x16384x4x128 : Shape := ⟨4, ![1, 16384, 4, 128]⟩
abbrev S1x4x16384x128 : Shape := ⟨4, ![1, 4, 16384, 128]⟩
abbrev S1x16384x4x256 : Shape := ⟨4, ![1, 16384, 4, 256]⟩
abbrev S1x4x16384x256 : Shape := ⟨4, ![1, 4, 16384, 256]⟩
abbrev S128x128 : Shape := ⟨2, ![128, 128]⟩
abbrev S1x4x128x256 : Shape := ⟨4, ![1, 4, 128, 256]⟩
abbrev S1x4x128 : Shape := ⟨3, ![1, 4, 128]⟩
abbrev S1x4 : Shape := ⟨2, ![1, 4]⟩
abbrev S1x4x128x128x128 : Shape := ⟨5, ![1, 4, 128, 128, 128]⟩
abbrev S128x1x4x128x128 : Shape := ⟨5, ![128, 1, 4, 128, 128]⟩
abbrev S1x4x128x128x256 : Shape := ⟨5, ![1, 4, 128, 128, 256]⟩
abbrev S128x1x4x128x256 : Shape := ⟨5, ![128, 1, 4, 128, 256]⟩
abbrev S1x4x128x128 : Shape := ⟨4, ![1, 4, 128, 128]⟩
abbrev S128x1x4x128 : Shape := ⟨4, ![128, 1, 4, 128]⟩
abbrev S1x1x4x128x128 : Shape := ⟨5, ![1, 1, 4, 128, 128]⟩
abbrev S1x1x4x128x256 : Shape := ⟨5, ![1, 1, 4, 128, 256]⟩
abbrev S1x1x4x128 : Shape := ⟨4, ![1, 1, 4, 128]⟩
abbrev S1x4x128x1 : Shape := ⟨4, ![1, 4, 128, 1]⟩
abbrev S1x4x1x128 : Shape := ⟨4, ![1, 4, 1, 128]⟩
abbrev S1x4x1 : Shape := ⟨3, ![1, 4, 1]⟩
abbrev S1x4x1x1 : Shape := ⟨4, ![1, 4, 1, 1]⟩
abbrev S4x256 : Shape := ⟨2, ![4, 256]⟩
abbrev S1x16384x4x1 : Shape := ⟨4, ![1, 16384, 4, 1]⟩
abbrev S1x1x4x256 : Shape := ⟨4, ![1, 1, 4, 256]⟩

abbrev nBuf : Space → Nat
  | .hbm => 229
  | .vmem => 0
  | .smem => 0
  | _ => 0

abbrev hbmTy0_0 (i : Nat) : BufTy := match i % 128 with
  | 0 => ⟨S16384x2048, .bf16⟩
  | 1 => ⟨S16384x128, .f32⟩
  | 2 => ⟨S8, .f32⟩
  | 3 => ⟨S16384x1024, .f32⟩
  | 4 => ⟨S1024, .f32⟩
  | 5 => ⟨S16384x512, .bf16⟩
  | 6 => ⟨S16384x512, .bf16⟩
  | 7 => ⟨S16384x1024, .bf16⟩
  | 8 => ⟨S16384x8, .f32⟩
  | 9 => ⟨S1x16384x8, .f32⟩
  | 10 => ⟨S1x1x8, .f32⟩
  | 11 => ⟨S1x16384x8, .f32⟩
  | 12 => ⟨S1x16384x8, .f32⟩
  | 13 => ⟨S_, .f32⟩
  | 14 => ⟨S1x16384x8, .f32⟩
  | 15 => ⟨S1x16384x8, .f32⟩
  | 16 => ⟨S1x16384x8, .f32⟩
  | 17 => ⟨S_, .f32⟩
  | 18 => ⟨S1x16384x8, .f32⟩
  | 19 => ⟨S1x16384x8, .f32⟩
  | 20 => ⟨S1x16384x4, .f32⟩
  | 21 => ⟨S1x4x16384, .f32⟩
  | 22 => ⟨S1x16384x4, .f32⟩
  | 23 => ⟨S1x16384x4, .f32⟩
  | 24 => ⟨S_, .f32⟩
  | 25 => ⟨S1x16384x4, .f32⟩
  | 26 => ⟨S1x16384x4, .f32⟩
  | 27 => ⟨S1x16384x4, .f32⟩
  | 28 => ⟨S1x16384x4, .f32⟩
  | 29 => ⟨S1x16384x4, .i1⟩
  | 30 => ⟨S1x16384x4, .f32⟩
  | 31 => ⟨S1x16384x4, .f32⟩
  | 32 => ⟨S1x16384x4, .f32⟩
  | 33 => ⟨S1x16384x4, .f32⟩
  | 34 => ⟨S1x16384x4, .f32⟩
  | 35 => ⟨S1x16384x4, .f32⟩
  | 36 => ⟨S1x16384x4, .f32⟩
  | 37 => ⟨S1x16384x4, .f32⟩
  | 38 => ⟨S1x16384x4, .f32⟩
  | 39 => ⟨S1x4x16384, .f32⟩
  | 40 => ⟨S16384x512, .f32⟩
  | 41 => ⟨S1x16384x4x128, .f32⟩
  | 42 => ⟨S1x4x16384x128, .f32⟩
  | 43 => ⟨S16384x512, .f32⟩
  | 44 => ⟨S1x16384x4x128, .f32⟩
  | 45 => ⟨S1x4x16384x128, .f32⟩
  | 46 => ⟨S16384x1024, .f32⟩
  | 47 => ⟨S1x16384x4x256, .f32⟩
  | 48 => ⟨S1x4x16384x256, .f32⟩
  | 49 => ⟨S_, .i1⟩
  | 50 => ⟨S128x128, .i1⟩
  | 51 => ⟨S128x128, .i32⟩
  | 52 => ⟨S_, .i32⟩
  | 53 => ⟨S128x128, .i32⟩
  | 54 => ⟨S128x128, .i32⟩
  | 55 => ⟨S128x128, .i32⟩
  | 56 => ⟨S128x128, .i1⟩
  | 57 => ⟨S_, .i1⟩
  | 58 => ⟨S128x128, .i1⟩
  | 59 => ⟨S128x128, .i1⟩
  | 60 => ⟨S_, .f32⟩
  | 61 => ⟨S1x4x128x256, .f32⟩
  | 62 => ⟨S_, .f32⟩
  | 63 => ⟨S1x4x128, .f32⟩
  | 64 => ⟨S_, .f32⟩
  | 65 => ⟨S1x4, .f32⟩
  | 66 => ⟨S1x4x128x128x128, .f32⟩
  | 67 => ⟨S128x1x4x128x128, .f32⟩
  | 68 => ⟨S1x4x128x128x128, .f32⟩
  | 69 => ⟨S128x1x4x128x128, .f32⟩
  | 70 => ⟨S1x4x128x128x256, .f32⟩
  | 71 => ⟨S128x1x4x128x256, .f32⟩
  | 72 => ⟨S1x4x128x128, .f32⟩
  | 73 => ⟨S128x1x4x128, .f32⟩
  | 74 => ⟨S1x4x128x128, .f32⟩
  | 75 => ⟨S128x1x4x128, .f32⟩
  | 76 => ⟨S_, .f32⟩
  | 77 => ⟨S128x1x4x128x256, .f32⟩
  | 78 => ⟨S_, .i32⟩
  | 79 => ⟨S128x1x4x128x128, .f32⟩
  | 80 => ⟨S128x1x4x128x128, .f32⟩
  | 81 => ⟨S128x1x4x128x256, .f32⟩
  | 82 => ⟨S128x1x4x128, .f32⟩
  | 83 => ⟨S128x1x4x128, .f32⟩
  | 84 => ⟨S128x128, .i1⟩
  | 85 => ⟨S_, .i32⟩
  | 86 => ⟨S1x4x128x256, .f32⟩
  | 87 => ⟨S1x4x128, .f32⟩
  | 88 => ⟨S1x4, .f32⟩
  | 89 => ⟨S128x1x4x128x256, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x1x4x128x128, .f32⟩
  | 97 => ⟨S1x4x128x128, .f32⟩
  | 98 => ⟨S_, .i32⟩
  | 99 => ⟨S_, .i32⟩
  | 100 => ⟨S_, .i32⟩
  | 101 => ⟨S_, .i32⟩
  | 102 => ⟨S1x1x4x128x128, .f32⟩
  | 103 => ⟨S1x4x128x128, .f32⟩
  | 104 => ⟨S_, .i32⟩
  | 105 => ⟨S_, .i32⟩
  | 106 => ⟨S_, .i32⟩
  | 107 => ⟨S_, .i32⟩
  | 108 => ⟨S1x1x4x128x256, .f32⟩
  | 109 => ⟨S1x4x128x256, .f32⟩
  | 110 => ⟨S_, .i32⟩
  | 111 => ⟨S_, .i32⟩
  | 112 => ⟨S_, .i32⟩
  | 113 => ⟨S1x1x4x128, .f32⟩
  | 114 => ⟨S1x4x128, .f32⟩
  | 115 => ⟨S_, .i32⟩
  | 116 => ⟨S_, .i32⟩
  | 117 => ⟨S_, .i32⟩
  | 118 => ⟨S1x1x4x128, .f32⟩
  | 119 => ⟨S1x4x128, .f32⟩
  | 120 => ⟨S_, .f32⟩
  | 121 => ⟨S_, .f32⟩
  | 122 => ⟨S1x4x128, .f32⟩
  | 123 => ⟨S1x4x128x1, .f32⟩
  | 124 => ⟨S1x4x1x128, .f32⟩
  | 125 => ⟨S1x4x128x128, .f32⟩
  | 126 => ⟨S1x4x128x128, .f32⟩
  | 127 => ⟨S1x4x128x128, .f32⟩
  | _ => ⟨S16384x2048, .bf16⟩

abbrev hbmTy0_1 (i : Nat) : BufTy := match i % 128 with
  | 0 => ⟨S1x4x1x128, .f32⟩
  | 1 => ⟨S1x4x128x128, .f32⟩
  | 2 => ⟨S1x4x128x128, .f32⟩
  | 3 => ⟨S_, .f32⟩
  | 4 => ⟨S_, .f32⟩
  | 5 => ⟨S1x4x128x128, .i1⟩
  | 6 => ⟨S1x4x128x128, .f32⟩
  | 7 => ⟨S1x4x128x128, .f32⟩
  | 8 => ⟨S1x4x1, .f32⟩
  | 9 => ⟨S1x4x128, .f32⟩
  | 10 => ⟨S1x4x128, .f32⟩
  | 11 => ⟨S_, .f32⟩
  | 12 => ⟨S1x4x128, .f32⟩
  | 13 => ⟨S1x4x128, .f32⟩
  | 14 => ⟨S1x4x128x128, .f32⟩
  | 15 => ⟨S1x4x128x1, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128, .f32⟩
  | 21 => ⟨S1x4x128, .f32⟩
  | 22 => ⟨S1x4x128x256, .f32⟩
  | 23 => ⟨S1x4x128x1, .f32⟩
  | 24 => ⟨S1x4x128x256, .f32⟩
  | 25 => ⟨S1x4x128x256, .f32⟩
  | 26 => ⟨S1x4x128x256, .f32⟩
  | 27 => ⟨S1x4x128x256, .f32⟩
  | 28 => ⟨S_, .f32⟩
  | 29 => ⟨S1x4x128, .f32⟩
  | 30 => ⟨S1x4x128, .f32⟩
  | 31 => ⟨S1x4x128, .f32⟩
  | 32 => ⟨S1x4x128, .f32⟩
  | 33 => ⟨S1x4x128, .f32⟩
  | 34 => ⟨S1x4x128, .f32⟩
  | 35 => ⟨S1x4x128, .f32⟩
  | 36 => ⟨S1x4x128, .f32⟩
  | 37 => ⟨S1x4x128x1, .f32⟩
  | 38 => ⟨S1x4x128x256, .f32⟩
  | 39 => ⟨S1x4x128x256, .f32⟩
  | 40 => ⟨S1x4x1, .f32⟩
  | 41 => ⟨S1x4, .f32⟩
  | 42 => ⟨S1x4x1, .f32⟩
  | 43 => ⟨S1x4x128, .f32⟩
  | 44 => ⟨S1x4x128, .f32⟩
  | 45 => ⟨S1x4x128, .f32⟩
  | 46 => ⟨S1x4, .f32⟩
  | 47 => ⟨S_, .f32⟩
  | 48 => ⟨S1x4, .f32⟩
  | 49 => ⟨S1x4, .f32⟩
  | 50 => ⟨S1x4x1, .f32⟩
  | 51 => ⟨S1x4x128, .f32⟩
  | 52 => ⟨S1x4x128, .f32⟩
  | 53 => ⟨S1x4x128, .f32⟩
  | 54 => ⟨S1x4, .f32⟩
  | 55 => ⟨S1x4, .f32⟩
  | 56 => ⟨S1x4, .f32⟩
  | 57 => ⟨S1x4x1x1, .f32⟩
  | 58 => ⟨S1x4x128x256, .f32⟩
  | 59 => ⟨S1x4x128x256, .f32⟩
  | 60 => ⟨S1x4x128x1, .f32⟩
  | 61 => ⟨S1x4x128x128, .f32⟩
  | 62 => ⟨S1x4x128x128, .f32⟩
  | 63 => ⟨S1x4x128x256, .f32⟩
  | 64 => ⟨S1x4x128x256, .f32⟩
  | 65 => ⟨S1x4x1, .f32⟩
  | 66 => ⟨S1x4x128, .f32⟩
  | 67 => ⟨S1x4x128, .f32⟩
  | 68 => ⟨S1x4x128, .f32⟩
  | 69 => ⟨S1x4x128, .f32⟩
  | 70 => ⟨S1x1x4x128x256, .f32⟩
  | 71 => ⟨S_, .i32⟩
  | 72 => ⟨S_, .i32⟩
  | 73 => ⟨S_, .i32⟩
  | 74 => ⟨S_, .i32⟩
  | 75 => ⟨S128x1x4x128x256, .f32⟩
  | 76 => ⟨S_, .i32⟩
  | 77 => ⟨S_, .i32⟩
  | 78 => ⟨S1x4x128x128x256, .f32⟩
  | 79 => ⟨S1x4x16384x256, .f32⟩
  | 80 => ⟨S1x16384x4x256, .f32⟩
  | 81 => ⟨S4x256, .f32⟩
  | 82 => ⟨S1x16384x4x256, .f32⟩
  | 83 => ⟨S_, .f32⟩
  | 84 => ⟨S1x16384x4, .f32⟩
  | 85 => ⟨S1x16384x4x1, .f32⟩
  | 86 => ⟨S_, .f32⟩
  | 87 => ⟨S1x16384x4x1, .f32⟩
  | 88 => ⟨S1x16384x4x1, .f32⟩
  | 89 => ⟨S_, .f32⟩
  | 90 => ⟨S1x16384x4x1, .f32⟩
  | 91 => ⟨S1x16384x4x1, .f32⟩
  | 92 => ⟨S1x16384x4x1, .f32⟩
  | 93 => ⟨S1x16384x4x256, .f32⟩
  | 94 => ⟨S1x16384x4x256, .f32⟩
  | 95 => ⟨S1x1x4x256, .f32⟩
  | 96 => ⟨S1x16384x4x256, .f32⟩
  | 97 => ⟨S1x16384x4x256, .f32⟩
  | 98 => ⟨S16384x1024, .f32⟩
  | 99 => ⟨S16384x1024, .f32⟩
  | 100 => ⟨S16384x1024, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c : Ref sig .tc := ⟨.hbm, 49, rfl⟩
abbrev main_v27 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_0 : Ref sig .tc := ⟨.hbm, 57, rfl⟩
abbrev main_call1_v5 : Ref sig .tc := ⟨.hbm, 58, rfl⟩
abbrev main_v28 : Ref sig .tc := ⟨.hbm, 59, rfl⟩
abbrev main_cst_1 : Ref sig .tc := ⟨.hbm, 60, rfl⟩
abbrev main_v29 : Ref sig .tc := ⟨.hbm, 61, rfl⟩
abbrev main_cst_2 : Ref sig .tc := ⟨.hbm, 62, rfl⟩
abbrev main_v30 : Ref sig .tc := ⟨.hbm, 63, rfl⟩
abbrev main_cst_3 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_4 : Ref sig .tc := ⟨.hbm, 76, rfl⟩
abbrev main_v42 : Ref sig .tc := ⟨.hbm, 77, rfl⟩
abbrev main_c_5 : Ref sig .tc := ⟨.hbm, 78, rfl⟩
abbrev main_v43_0 : Ref sig .tc := ⟨.hbm, 79, rfl⟩
abbrev main_v43_1 : Ref sig .tc := ⟨.hbm, 80, rfl⟩
abbrev main_v43_2 : Ref sig .tc := ⟨.hbm, 81, rfl⟩
abbrev main_v43_3 : Ref sig .tc := ⟨.hbm, 82, rfl⟩
abbrev main_v43_4 : Ref sig .tc := ⟨.hbm, 83, rfl⟩
abbrev main_v43_5 : Ref sig .tc := ⟨.hbm, 84, rfl⟩
abbrev main_v43_6 : Ref sig .tc := ⟨.hbm, 85, rfl⟩
abbrev main_v43_7 : Ref sig .tc := ⟨.hbm, 86, rfl⟩
abbrev main_v43_8 : Ref sig .tc := ⟨.hbm, 87, rfl⟩
abbrev main_v43_9 : Ref sig .tc := ⟨.hbm, 88, rfl⟩
abbrev main_v43_10 : Ref sig .tc := ⟨.hbm, 89, rfl⟩
abbrev main_while0c_c_19 : Ref sig .tc := ⟨.hbm, 90, rfl⟩
abbrev main_while0c_v64 : Ref sig .tc := ⟨.hbm, 91, rfl⟩
abbrev main_while0b_call2_c : Ref sig .tc := ⟨.hbm, 92, rfl⟩
abbrev main_while0b_call2_c_0 : Ref sig .tc := ⟨.hbm, 93, rfl⟩
abbrev main_while0b_call2_c_1 : Ref sig .tc := ⟨.hbm, 94, rfl⟩
abbrev main_while0b_call2_c_2 : Ref sig .tc := ⟨.hbm, 95, rfl⟩
abbrev main_while0b_call2_v0 : Ref sig .tc := ⟨.hbm, 96, rfl⟩
abbrev main_while0b_v64 : Ref sig .tc := ⟨.hbm, 97, rfl⟩
abbrev main_while0b_call3_c : Ref sig .tc := ⟨.hbm, 98, rfl⟩
abbrev main_while0b_call3_c_0 : Ref sig .tc := ⟨.hbm, 99, rfl⟩
abbrev main_while0b_call3_c_1 : Ref sig .tc := ⟨.hbm, 100, rfl⟩
abbrev main_while0b_call3_c_2 : Ref sig .tc := ⟨.hbm, 101, rfl⟩
abbrev main_while0b_call3_v0 : Ref sig .tc := ⟨.hbm, 102, rfl⟩
abbrev main_while0b_v65 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_call4_c_1 : Ref sig .tc := ⟨.hbm, 106, rfl⟩
abbrev main_while0b_call4_c_2 : Ref sig .tc := ⟨.hbm, 107, rfl⟩
abbrev main_while0b_call4_v0 : Ref sig .tc := ⟨.hbm, 108, rfl⟩
abbrev main_while0b_v66 : Ref sig .tc := ⟨.hbm, 109, rfl⟩
abbrev main_while0b_call5_c : Ref sig .tc := ⟨.hbm, 110, rfl⟩
abbrev main_while0b_call5_c_0 : Ref sig .tc := ⟨.hbm, 111, rfl⟩
abbrev main_while0b_call5_c_1 : Ref sig .tc := ⟨.hbm, 112, rfl⟩
abbrev main_while0b_call5_v0 : Ref sig .tc := ⟨.hbm, 113, rfl⟩
abbrev main_while0b_v67 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_call6_v0 : Ref sig .tc := ⟨.hbm, 118, rfl⟩
abbrev main_while0b_v68 : Ref sig .tc := ⟨.hbm, 119, rfl⟩
abbrev main_while0b_call7_call0_cst : Ref sig .tc := ⟨.hbm, 120, rfl⟩
abbrev main_while0b_call7_call0_v0 : Ref sig .tc := ⟨.hbm, 121, rfl⟩
abbrev main_while0b_v69 : Ref sig .tc := ⟨.hbm, 122, rfl⟩
abbrev main_while0b_v70 : Ref sig .tc := ⟨.hbm, 123, rfl⟩
abbrev main_while0b_v71 : Ref sig .tc := ⟨.hbm, 124, rfl⟩
abbrev main_while0b_v72 : Ref sig .tc := ⟨.hbm, 125, rfl⟩
abbrev main_while0b_v73 : Ref sig .tc := ⟨.hbm, 126, rfl⟩
abbrev main_while0b_v74 : Ref sig .tc := ⟨.hbm, 127, rfl⟩
abbrev main_while0b_v75 : Ref sig .tc := ⟨.hbm, 128, rfl⟩
abbrev main_while0b_v76 : Ref sig .tc := ⟨.hbm, 129, rfl⟩
abbrev main_while0b_v77 : Ref sig .tc := ⟨.hbm, 130, rfl⟩
abbrev main_while0b_cst_19 : Ref sig .tc := ⟨.hbm, 131, rfl⟩
abbrev main_while0b_call8_v0 : Ref sig .tc := ⟨.hbm, 132, rfl⟩
abbrev main_while0b_call8_v1 : Ref sig .tc := ⟨.hbm, 133, rfl⟩
abbrev main_while0b_call8_v2 : Ref sig .tc := ⟨.hbm, 134, rfl⟩
abbrev main_while0b_v78 : Ref sig .tc := ⟨.hbm, 135, rfl⟩
abbrev main_while0b_v79 : Ref sig .tc := ⟨.hbm, 136, rfl⟩
abbrev main_while0b_v80 : Ref sig .tc := ⟨.hbm, 137, rfl⟩
abbrev main_while0b_v81 : Ref sig .tc := ⟨.hbm, 138, rfl⟩
abbrev main_while0b_cst_20 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_v86 : Ref sig .tc := ⟨.hbm, 144, rfl⟩
abbrev main_while0b_v87 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_v94 : Ref sig .tc := ⟨.hbm, 152, rfl⟩
abbrev main_while0b_v95 : Ref sig .tc := ⟨.hbm, 153, rfl⟩
abbrev main_while0b_v96 : Ref sig .tc := ⟨.hbm, 154, rfl⟩
abbrev main_while0b_v97 : Ref sig .tc := ⟨.hbm, 155, rfl⟩
abbrev main_while0b_cst_21 : Ref sig .tc := ⟨.hbm, 156, rfl⟩
abbrev main_while0b_v98 : Ref sig .tc := ⟨.hbm, 157, rfl⟩
abbrev main_while0b_v99 : Ref sig .tc := ⟨.hbm, 158, rfl⟩
abbrev main_while0b_v100 : Ref sig .tc := ⟨.hbm, 159, rfl⟩
abbrev main_while0b_v101 : Ref sig .tc := ⟨.hbm, 160, rfl⟩
abbrev main_while0b_v102 : Ref sig .tc := ⟨.hbm, 161, rfl⟩
abbrev main_while0b_v103 : Ref sig .tc := ⟨.hbm, 162, rfl⟩
abbrev main_while0b_v104 : Ref sig .tc := ⟨.hbm, 163, rfl⟩
abbrev main_while0b_v105 : Ref sig .tc := ⟨.hbm, 164, rfl⟩
abbrev main_while0b_v106 : Ref sig .tc := ⟨.hbm, 165, rfl⟩
abbrev main_while0b_v107 : Ref sig .tc := ⟨.hbm, 166, rfl⟩
abbrev main_while0b_v108 : Ref sig .tc := ⟨.hbm, 167, rfl⟩
abbrev main_while0b_v109 : Ref sig .tc := ⟨.hbm, 168, rfl⟩
abbrev main_while0b_v110 : Ref sig .tc := ⟨.hbm, 169, rfl⟩
abbrev main_while0b_v111 : Ref sig .tc := ⟨.hbm, 170, rfl⟩
abbrev main_while0b_v112 : Ref sig .tc := ⟨.hbm, 171, rfl⟩
abbrev main_while0b_v113 : Ref sig .tc := ⟨.hbm, 172, rfl⟩
abbrev main_while0b_v114 : Ref sig .tc := ⟨.hbm, 173, rfl⟩
abbrev main_while0b_v115 : Ref sig .tc := ⟨.hbm, 174, rfl⟩
abbrev main_while0b_cst_22 : Ref sig .tc := ⟨.hbm, 175, rfl⟩
abbrev main_while0b_v116 : Ref sig .tc := ⟨.hbm, 176, rfl⟩
abbrev main_while0b_v117 : Ref sig .tc := ⟨.hbm, 177, rfl⟩
abbrev main_while0b_v118 : Ref sig .tc := ⟨.hbm, 178, rfl⟩
abbrev main_while0b_v119 : Ref sig .tc := ⟨.hbm, 179, rfl⟩
abbrev main_while0b_v120 : Ref sig .tc := ⟨.hbm, 180, rfl⟩
abbrev main_while0b_v121 : Ref sig .tc := ⟨.hbm, 181, rfl⟩
abbrev main_while0b_v122 : Ref sig .tc := ⟨.hbm, 182, rfl⟩
abbrev main_while0b_v123 : Ref sig .tc := ⟨.hbm, 183, rfl⟩
abbrev main_while0b_v124 : Ref sig .tc := ⟨.hbm, 184, rfl⟩
abbrev main_while0b_v125 : Ref sig .tc := ⟨.hbm, 185, rfl⟩
abbrev main_while0b_v126 : Ref sig .tc := ⟨.hbm, 186, rfl⟩
abbrev main_while0b_v127 : Ref sig .tc := ⟨.hbm, 187, rfl⟩
abbrev main_while0b_v128 : Ref sig .tc := ⟨.hbm, 188, rfl⟩
abbrev main_while0b_v129 : Ref sig .tc := ⟨.hbm, 189, rfl⟩
abbrev main_while0b_v130 : Ref sig .tc := ⟨.hbm, 190, rfl⟩
abbrev main_while0b_v131 : Ref sig .tc := ⟨.hbm, 191, rfl⟩
abbrev main_while0b_v132 : Ref sig .tc := ⟨.hbm, 192, rfl⟩
abbrev main_while0b_v133 : Ref sig .tc := ⟨.hbm, 193, rfl⟩
abbrev main_while0b_v134 : Ref sig .tc := ⟨.hbm, 194, rfl⟩
abbrev main_while0b_v135 : Ref sig .tc := ⟨.hbm, 195, rfl⟩
abbrev main_while0b_v136 : Ref sig .tc := ⟨.hbm, 196, rfl⟩
abbrev main_while0b_v137 : Ref sig .tc := ⟨.hbm, 197, rfl⟩
abbrev main_while0b_call9_v0 : Ref sig .tc := ⟨.hbm, 198, rfl⟩
abbrev main_while0b_call9_c : Ref sig .tc := ⟨.hbm, 199, rfl⟩
abbrev main_while0b_call9_c_0 : Ref sig .tc := ⟨.hbm, 200, rfl⟩
abbrev main_while0b_call9_c_1 : Ref sig .tc := ⟨.hbm, 201, rfl⟩
abbrev main_while0b_call9_c_2 : Ref sig .tc := ⟨.hbm, 202, rfl⟩
abbrev main_while0b_v138 : Ref sig .tc := ⟨.hbm, 203, rfl⟩
abbrev main_while0b_c_23 : Ref sig .tc := ⟨.hbm, 204, rfl⟩
abbrev main_while0b_v139 : Ref sig .tc := ⟨.hbm, 205, rfl⟩
abbrev main_v44 : Ref sig .tc := ⟨.hbm, 206, rfl⟩
abbrev main_v45 : Ref sig .tc := ⟨.hbm, 207, rfl⟩
abbrev main_v46 : Ref sig .tc := ⟨.hbm, 208, rfl⟩
abbrev main_v47 : Ref sig .tc := ⟨.hbm, 209, rfl⟩
abbrev main_v48 : Ref sig .tc := ⟨.hbm, 210, rfl⟩
abbrev main_cst_6 : Ref sig .tc := ⟨.hbm, 211, rfl⟩
abbrev main_v49 : Ref sig .tc := ⟨.hbm, 212, rfl⟩
abbrev main_v50 : Ref sig .tc := ⟨.hbm, 213, rfl⟩
abbrev main_cst_7 : Ref sig .tc := ⟨.hbm, 214, rfl⟩
abbrev main_v51 : Ref sig .tc := ⟨.hbm, 215, rfl⟩
abbrev main_v52 : Ref sig .tc := ⟨.hbm, 216, rfl⟩
abbrev main_cst_8 : Ref sig .tc := ⟨.hbm, 217, rfl⟩
abbrev main_v53 : Ref sig .tc := ⟨.hbm, 218, rfl⟩
abbrev main_v54 : Ref sig .tc := ⟨.hbm, 219, rfl⟩
abbrev main_v55 : Ref sig .tc := ⟨.hbm, 220, rfl⟩
abbrev main_v56 : Ref sig .tc := ⟨.hbm, 221, rfl⟩
abbrev main_v57 : Ref sig .tc := ⟨.hbm, 222, rfl⟩
abbrev main_v58 : Ref sig .tc := ⟨.hbm, 223, rfl⟩
abbrev main_v59 : Ref sig .tc := ⟨.hbm, 224, rfl⟩
abbrev main_v60 : Ref sig .tc := ⟨.hbm, 225, rfl⟩
abbrev main_v61 : Ref sig .tc := ⟨.hbm, 226, rfl⟩
abbrev main_v62 : Ref sig .tc := ⟨.hbm, 227, rfl⟩
abbrev main_v63 : Ref sig .tc := ⟨.hbm, 228, rfl⟩

abbrev nD : Nat := 1
abbrev τ : Topo := Topo.v7x

variable {F : FTy → Type} [FloatOps F]

abbrev main_while0_count : Scf.Loop 32 := ⟨0#32, 128#32, 1#32⟩
-- ==== Proof.Mlp.lean ====
/-
  The feed-forward call, the larger part of a layer: a row block of the result is the residual plus eight accumulated
  products, one per block of 1024 hidden columns; the reference contracts all 8192 hidden columns at once.
-/
module

public import proofs.«01_k».proof.Defs
public import proofs.«01_k».proof.Proof.Gen.MlpKernelIdeal.Value
public import proofs.«01_k».proof.Proof.Gen.MlpReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Mlp

section
open Cert.MlpReferenceIdeal Cert.MlpReferenceIdeal.Gen
/-- The reference's result as a function of its arguments. -/
abbrev ref (X0 : FVec Ideal S16384x2048 .bf16) (X1 : FVec Ideal S2048x8192 .f32) (X2 : FVec Ideal S8192x2048 .f32) (X3 : FVec Ideal S16384x2048 .f32) : FVec Ideal S16384x2048 .f32 :=
  addf X3 (Host.dotGeneral dot_S16384x8192_S8192x2048_S16384x2048_1_0_0_1_n_n none (mulf (maximumf (Host.dotGeneral dot_S16384x2048_S2048x8192_S16384x8192_1_0_0_1_n_n none (extf .f32 X0 bitsLt_bf16_f32) X1) (broadcastInDim S16384x8192 ![] bcast_S_S16384x8192 (constant S_ .f32 0x00000000#32))) (maximumf (Host.dotGeneral dot_S16384x2048_S2048x8192_S16384x8192_1_0_0_1_n_n none (extf .f32 X0 bitsLt_bf16_f32) X1) (broadcastInDim S16384x8192 ![] bcast_S_S16384x8192 (constant S_ .f32 0x00000000#32)))) X2)
end

open Cert.MlpKernelIdeal Cert.MlpKernelIdeal.Gen

variable (m : (ℓ : Loc nD τ sig) → Buf (Elt Ideal) ℓ)

/-- Where each window's block lies at each grid point. -/
theorem idx : ∀ t : Fin cfg0.N, win0_0.index t = ![t.val / 8, 0] ∧ win0_1.index t = ![0, t.val % 8] ∧ win0_2.index t = ![t.val % 8, 0] ∧ win0_3.index t = ![t.val / 8, 0] ∧ win0_4.index t = ![t.val / 8, 0] :=
  (by decide +kernel : ∀ t : Fin grid0.N, _)

/-- One grid point adds, to what the block holds, the products over its 1024 hidden columns. -/
theorem pay (x0 : FVec Ideal S512x2048 .bf16) (x1 : FVec Ideal S2048x1024 .bf16) (acc : FVec Ideal S512x2048 .f32)
    (x2 : FVec Ideal S1024x2048 .bf16) (y : S512x2048.Idx) :
    k0_pay1 x0 x1 acc x2 y = acc y + ∑ l : Fin 1024,
      (max (∑ k : Fin 2048, x0 (ix2 (y 0) k) * x1 (ix2 k l)) 0 * max (∑ k : Fin 2048, x0 (ix2 (y 0) k) * x1 (ix2 k l)) 0)
        * x2 (ix2 l (y 1)) := by
  pointwise [k0_pay1]

/-- The reference's value at an element: the residual plus one product over all hidden columns. -/
theorem ref_apply (X0 : FVec Ideal S16384x2048 .bf16) (X1 : FVec Ideal S2048x8192 .f32) (X2 : FVec Ideal S8192x2048 .f32)
    (X3 : FVec Ideal S16384x2048 .f32) (i : S16384x2048.Idx) :
    ref X0 X1 X2 X3 i = X3 i + ∑ l : Fin 8192,
      (max (∑ k : Fin 2048, X0 (ix2 (i 0) k) * X1 (ix2 k l)) 0 * max (∑ k : Fin 2048, X0 (ix2 (i 0) k) * X1 (ix2 k l)) 0)
        * X2 (ix2 l (i 1)) := by
  pointwise [ref]

/-- A fold whose steps each add a term is its start plus the sum of the terms. -/
theorem fold_sum {N : ℕ} {ι : Type} (a : (n : ℕ) → n < N → ι → EReal) (g : (n : ℕ) → n < N → (ι → EReal) → ι → EReal)
    (Z : ι → EReal) (T : (n : ℕ) → n < N → ι → EReal) (b : ℕ) (ha : ∀ h i, a b h i = Z i + T b h i)
    (hg : ∀ n h acc i, g n h acc i = acc i + T n h i) :
    ∀ (e j : ℕ) (he : j = e) (h : b + j < N) (i : ι), Pipeline.accAt a g b j h i
      = Z i + ∑ s : Fin (e + 1), T (b + s.val) (lt_of_le_of_lt (by omega) h) i
  | _, 0, rfl, h, i => by
    rw [Pipeline.accAt_zero, ha]
    simp
  | _, j + 1, rfl, h, i => by
    rw [Pipeline.accAt_succ, hg, fold_sum a g Z T b ha hg j j rfl (by omega) i, Fin.sum_univ_castSucc (n := j + 1), add_assoc]
    rfl

/-- The products grid point `n` adds to its row block. -/
def term (c : Dev nD) (n : ℕ) (h : n < cfg0.N) (y : S512x2048.Idx) : EReal :=
  let x0 : FVec Ideal S512x2048 .bf16 := iblk m c 0 ⟨n, h⟩
  let x1 : FVec Ideal S2048x1024 .bf16 := iblk m c 1 ⟨n, h⟩
  let x2 : FVec Ideal S1024x2048 .bf16 := iblk m c 2 ⟨n, h⟩
  ∑ l : Fin 1024,
    (max (∑ k : Fin 2048, x0 (ix2 (y 0) k) * x1 (ix2 k l)) 0 * max (∑ k : Fin 2048, x0 (ix2 (y 0) k) * x1 (ix2 k l)) 0)
      * x2 (ix2 l (y 1))

/-- The result array after the run. -/
theorem final (c : Dev nD) : (dats m 0 c).arrAt 4 (cfgs 0).N
    = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val % 8 = 7 := (flush0_4 t).mp hf
  have hN : t.val < 256 := lt_of_lt_of_eq t.isLt N_0
  have hb : 8 * (t.val / 8) < cfg0.N := lt_of_lt_of_eq (by omega) N_0.symm
  blk_simp
  rw [after0_4, Cert.MlpKernelIdeal.Value.outsAt_4_eq]
  refine (fold_sum (Cert.MlpKernelIdeal.Value.reset4 m c) (Cert.MlpKernelIdeal.Value.step4 m c)
    (show FVec Ideal S512x2048 .f32 from iblk m c 3 ⟨8 * (t.val / 8), hb⟩) (term m c) _
    (fun h i => pay _ _ _ _ i) (fun n h acc i => pay _ _ _ _ i) 7 _ ht _ y).trans ?_
  rw [ref_apply]
  have hs : ∀ s : Fin 8, 8 * (t.val / 8) + s.val < cfg0.N := fun s => lt_of_lt_of_eq (by omega) N_0.symm
  refine congrArg₂ (· + ·) ?_ (Fin.sum_mul_add_congr (S := 8) (n := 1024) fun s l hl => ?_)
  · blk_ext [iblk, V, idx t, idx ⟨8 * (t.val / 8), hb⟩]
  · blk_point [iblk, V, idx t, idx ⟨8 * (t.val / 8) + s.val, hs s⟩]

/-- The claim: both runs end with the same array. -/
theorem claim : algebraic_MlpKernelIdeal_MlpReferenceIdeal := by
  intro m ρ m' ρ' hpre hagree
  refine ⟨fun c => ref (m ((c : Thread nD τ).loc main_arg0)) (m ((c : Thread nD τ).loc main_arg1)) (m ((c : Thread nD τ).loc main_arg2)) (m ((c : Thread nD τ).loc main_arg3)),
    (θ_run defs _ _).mono (fun r h c => ⟨(h c).1.trans (final m c), (h c).2⟩) (Cert.MlpKernelIdeal.Value.run_blocks m ρ),
    (θ_run Cert.MlpReferenceIdeal.defs _ _).mono (fun r h c => ⟨(h c).1.trans ?_, (h c).2⟩)
      (Cert.MlpReferenceIdeal.Value.run m' ρ')⟩
  show ref (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) = _
  simp only [hagree c]

end Cert.Proof.Mlp

end
-- ==== Proof.Merge.lean ====
/-
  The merge of the two branches: gates, branch products and their gated sum.
-/
module

public import proofs.«01_k».proof.Defs
public import proofs.«01_k».proof.Proof.Gen.MergeKernelIdeal.Value
public import proofs.«01_k».proof.Proof.Gen.MergeReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Merge

section
open Cert.MergeReferenceIdeal Cert.MergeReferenceIdeal.Gen
/-- The reference's result as a function of its arguments. -/
abbrev ref (X0 : FVec Ideal S16384x2048 .bf16) (X1 : FVec Ideal S16384x1024 .bf16) (X2 : FVec Ideal S16384x1024 .bf16) (X3 : FVec Ideal S2048x10248 .f32) (X4 : FVec Ideal S1024x2048 .f32) (X5 : FVec Ideal S1024x2048 .f32) : FVec Ideal S16384x2048 .bf16 :=
  truncf .bf16 (addf (mulf (extractStridedSlice S16384x2048 ![0, 0] (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 6152] (Host.dotGeneral dot_S16384x2048_S2048x10248_S16384x10248_1_0_0_1_n_n none (extf .f32 X0 bitsLt_bf16_f32) X3) slices_S16384x10248_S16384x4096_0_6152))))) slices_S16384x4096_S16384x2048_0_0) (Host.dotGeneral dot_S16384x1024_S1024x2048_S16384x2048_1_0_0_1_n_n none (extf .f32 X1 bitsLt_bf16_f32) X4)) (mulf (extractStridedSlice S16384x2048 ![0, 2048] (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 6152] (Host.dotGeneral dot_S16384x2048_S2048x10248_S16384x10248_1_0_0_1_n_n none (extf .f32 X0 bitsLt_bf16_f32) X3) slices_S16384x10248_S16384x4096_0_6152))))) slices_S16384x4096_S16384x2048_0_2048) (Host.dotGeneral dot_S16384x1024_S1024x2048_S16384x2048_1_0_0_1_n_n none (extf .f32 X2 bitsLt_bf16_f32) X5))) bitsLt_bf16_f32
end

open Cert.MergeKernelIdeal Cert.MergeKernelIdeal.Gen

variable (m : (ℓ : Loc nD τ sig) → Buf (Elt Ideal) ℓ)

/-- Where each window's block lies at each grid point. -/
theorem idx : ∀ t : Fin cfg0.N, win0_0.index t = ![t.val / 4, 0] ∧ win0_1.index t = ![t.val / 4, 0] ∧ win0_2.index t = ![t.val / 4, 0] ∧ win0_3.index t = ![0, t.val % 4] ∧ win0_4.index t = ![0, t.val % 4 + 4] ∧ win0_5.index t = ![0, t.val % 4] ∧ win0_6.index t = ![0, t.val % 4] ∧ win0_7.index t = ![t.val / 4, t.val % 4] :=
  (by decide +kernel : ∀ t : Fin grid0.N, _)

/-- The body's value at one element of one block is the reference's value at the element's place in the array. -/
theorem point (c : Dev nD) (t : Fin cfg0.N) (y : S1024x512.Idx) :
    k0_pay1 (iblk m c 0 t) (iblk m c 3 t) (iblk m c 4 t) (iblk m c 1 t) (iblk m c 5 t) (iblk m c 2 t) (iblk m c 6 t) y
      = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay1, ref, Ideal.logistic]
  blk_point [iblk, V, idx t]

/-- The result array after the run. -/
theorem final (c : Dev nD) : (dats m 0 c).arrAt 7 (cfgs 0).N
    = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  exact point m c t y

/-- The claim: both runs end with the same array. -/
theorem claim : algebraic_MergeKernelIdeal_MergeReferenceIdeal := by
  intro m ρ m' ρ' hpre hagree
  refine ⟨fun c => ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    (θ_run defs _ _).mono (fun r h c => ⟨(h c).1.trans (final m c), (h c).2⟩) (Cert.MergeKernelIdeal.Value.run_blocks m ρ),
    (θ_run Cert.MergeReferenceIdeal.defs _ _).mono (fun r h c => ⟨(h c).1.trans ?_, (h c).2⟩)
      (Cert.MergeReferenceIdeal.Value.run m' ρ')⟩
  simp only [hagree c]

end Cert.Proof.Merge

end
-- ==== Proof.Outproj.lean ====
/-
  The output projection with the residual, and the second normalization: two result arrays.
-/
module

public import proofs.«01_k».proof.Defs
public import proofs.«01_k».proof.Proof.Gen.OutprojKernelIdeal.Value
public import proofs.«01_k».proof.Proof.Gen.OutprojReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Outproj

section
open Cert.OutprojReferenceIdeal Cert.OutprojReferenceIdeal.Gen
/-- The reference's result as a function of its arguments. -/
abbrev ref0 (X0 : FVec Ideal S16384x2048 .f32) (X1 : FVec Ideal S16384x2048 .bf16) (X2 : FVec Ideal S2048x2048 .f32) (X3 : FVec Ideal S2048 .f32) : FVec Ideal S16384x2048 .f32 :=
  addf X0 (Host.dotGeneral dot_S16384x2048_S2048x2048_S16384x2048_1_0_0_1_n_n none (extf .f32 X1 bitsLt_bf16_f32) X2)
end

section
open Cert.OutprojReferenceIdeal Cert.OutprojReferenceIdeal.Gen
/-- The reference's result as a function of its arguments. -/
abbrev ref1 (X0 : FVec Ideal S16384x2048 .f32) (X1 : FVec Ideal S16384x2048 .bf16) (X2 : FVec Ideal S2048x2048 .f32) (X3 : FVec Ideal S2048 .f32) : FVec Ideal S16384x2048 .bf16 :=
  truncf .bf16 (mulf (mulf (addf X0 (Host.dotGeneral dot_S16384x2048_S2048x2048_S16384x2048_1_0_0_1_n_n none (extf .f32 X1 bitsLt_bf16_f32) X2)) (broadcastInDim S16384x2048 ![0, 1] bcast_S16384x1_S16384x2048_0_1 (Host.rsqrt (addf (Host.divf (broadcastInDim S16384x1 ![0] bcast_S16384_S16384x1_0 (Host.reduceAdd (mulf (addf X0 (Host.dotGeneral dot_S16384x2048_S2048x2048_S16384x2048_1_0_0_1_n_n none (extf .f32 X1 bitsLt_bf16_f32) X2)) (addf X0 (Host.dotGeneral dot_S16384x2048_S2048x2048_S16384x2048_1_0_0_1_n_n none (extf .f32 X1 bitsLt_bf16_f32) X2))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 X3))) bitsLt_bf16_f32
end

open Cert.OutprojKernelIdeal Cert.OutprojKernelIdeal.Gen

variable (m : (ℓ : Loc nD τ sig) → Buf (Elt Ideal) ℓ)

/-- Where each window's block lies at each grid point. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- The body's value at one element of one block is the reference's value at the element's place in the array. -/
theorem point0 (c : Dev nD) (t : Fin cfg0.N) (y : S512x2048.Idx) :
    k0_pay1 (iblk m c 0 t) (iblk m c 1 t) (iblk m c 2 t) y
      = ref0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, ref0]
  blk_point [iblk, V, idx t]

/-- The result array after the run. -/
theorem final0 (c : Dev nD) : (dats m 0 c).arrAt 4 (cfgs 0).N
    = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- The body's value at one element of one block is the reference's value at the element's place in the array. -/
theorem point1 (c : Dev nD) (t : Fin cfg0.N) (y : S512x2048.Idx) :
    k0_pay2 (iblk m c 0 t) (iblk m c 1 t) (iblk m c 2 t) (iblk m c 3 t) y
      = ref1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay1, ref1]
  blk_point [iblk, V, idx t]

/-- The result array after the run. -/
theorem final1 (c : Dev nD) : (dats m 0 c).arrAt 5 (cfgs 0).N
    = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

/-- The claim: both runs end with the same two arrays. -/
theorem claim : algebraic_OutprojKernelIdeal_OutprojReferenceIdeal := by
  intro m ρ m' ρ' hpre hagree
  refine ⟨fun c => ref0 (m ((c : Thread nD τ).loc main_arg0)) (m ((c : Thread nD τ).loc main_arg1)) (m ((c : Thread nD τ).loc main_arg2)) (m ((c : Thread nD τ).loc main_arg3)),
    fun c => ref1 (m ((c : Thread nD τ).loc main_arg0)) (m ((c : Thread nD τ).loc main_arg1)) (m ((c : Thread nD τ).loc main_arg2)) (m ((c : Thread nD τ).loc main_arg3)),
    (θ_run defs _ _).mono (fun r h c => ⟨(h c).1.trans (final0 m c), (h c).2.1.trans (final1 m c), (h c).2.2⟩)
      (Cert.OutprojKernelIdeal.Value.run_blocks m ρ),
    (θ_run Cert.OutprojReferenceIdeal.defs _ _).mono (fun r h c => ⟨(h c).1.trans ?_, (h c).2.1.trans ?_, (h c).2.2⟩)
      (Cert.OutprojReferenceIdeal.Value.run m' ρ')⟩
  · show ref0 (m' ((c.tc : Thread Cert.OutprojReferenceIdeal.nD Cert.OutprojReferenceIdeal.τ).loc Cert.OutprojReferenceIdeal.main_arg0)) (m' ((c.tc : Thread Cert.OutprojReferenceIdeal.nD Cert.OutprojReferenceIdeal.τ).loc Cert.OutprojReferenceIdeal.main_arg1)) (m' ((c.tc : Thread Cert.OutprojReferenceIdeal.nD Cert.OutprojReferenceIdeal.τ).loc Cert.OutprojReferenceIdeal.main_arg2)) (m' ((c.tc : Thread Cert.OutprojReferenceIdeal.nD Cert.OutprojReferenceIdeal.τ).loc Cert.OutprojReferenceIdeal.main_arg3)) = _
    simp only [hagree c]
  · show ref1 (m' ((c.tc : Thread Cert.OutprojReferenceIdeal.nD Cert.OutprojReferenceIdeal.τ).loc Cert.OutprojReferenceIdeal.main_arg0)) (m' ((c.tc : Thread Cert.OutprojReferenceIdeal.nD Cert.OutprojReferenceIdeal.τ).loc Cert.OutprojReferenceIdeal.main_arg1)) (m' ((c.tc : Thread Cert.OutprojReferenceIdeal.nD Cert.OutprojReferenceIdeal.τ).loc Cert.OutprojReferenceIdeal.main_arg2)) (m' ((c.tc : Thread Cert.OutprojReferenceIdeal.nD Cert.OutprojReferenceIdeal.τ).loc Cert.OutprojReferenceIdeal.main_arg3)) = _
    simp only [hagree c]

end Cert.Proof.Outproj

end
-- ==== Proof.Qkv.lean ====
/-
  The recurrence's queries, keys and values: the kernel's array is the reference's three slices of the input projection, the queries scaled.
-/
module

public import proofs.«01_k».proof.Defs
public import proofs.«01_k».proof.Proof.Gen.QkvKernelIdeal.Value
public import proofs.«01_k».proof.Proof.Gen.QkvReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Qkv

section
open Cert.QkvReferenceIdeal Cert.QkvReferenceIdeal.Gen
/-- The reference's result as a function of its arguments. -/
abbrev ref (X0 : FVec Ideal S16384x2048 .bf16) (X1 : FVec Ideal S2048x10248 .f32) : FVec Ideal S16384x2048 .bf16 :=
  truncf .bf16 ((concatenate S16384x2048 1 [⟨S16384x512, ((mulf (extractStridedSlice S16384x512 ![0, 0] (Host.dotGeneral dot_S16384x2048_S2048x10248_S16384x10248_1_0_0_1_n_n none (extf .f32 X0 bitsLt_bf16_f32) X1) slices_S16384x10248_S16384x512_0_0) (broadcastInDim S16384x512 ![] bcast_S_S16384x512 (constant S_ .f32 0x3DB504F3#32))) : (⟨S16384x512, .f32⟩ : BufTy).Contents (Elt Ideal))⟩, ⟨S16384x512, ((extractStridedSlice S16384x512 ![0, 512] (Host.dotGeneral dot_S16384x2048_S2048x10248_S16384x10248_1_0_0_1_n_n none (extf .f32 X0 bitsLt_bf16_f32) X1) slices_S16384x10248_S16384x512_0_512) : (⟨S16384x512, .f32⟩ : BufTy).Contents (Elt Ideal))⟩, ⟨S16384x1024, ((extractStridedSlice S16384x1024 ![0, 1024] (Host.dotGeneral dot_S16384x2048_S2048x10248_S16384x10248_1_0_0_1_n_n none (extf .f32 X0 bitsLt_bf16_f32) X1) slices_S16384x10248_S16384x1024_0_1024) : (⟨S16384x1024, .f32⟩ : BufTy).Contents (Elt Ideal))⟩] concatenates_S16384x512_S16384x512_S16384x1024_S16384x2048_d1 : (⟨S16384x2048, .f32⟩ : BufTy).Contents (Elt Ideal))) bitsLt_bf16_f32
end

open Cert.QkvKernelIdeal Cert.QkvKernelIdeal.Gen

variable (m : (ℓ : Loc nD τ sig) → Buf (Elt Ideal) ℓ)

/-- Where each window's block lies at each grid point. -/
theorem idx : ∀ t : Fin cfg0.N, win0_0.index t = ![t.val / 2, 0] ∧ win0_1.index t = ![0, t.val % 2] ∧ win0_2.index t = ![0, t.val % 2] ∧ win0_3.index t = ![t.val / 2, t.val % 2] :=
  (by decide +kernel : ∀ t : Fin grid0.N, _)

/-- The column factors the kernel is given: the scale on the queries' columns, one on the others. -/
theorem factors (c : Dev nD) (j : Fin 2048) :
    (show FVec Ideal S1x2048 .f32 from V m c main_v2) (ix2 0 j)
      = if h : j.val < 512 then Ideal.ofBits .f32 1035273459#32 else 1 := by
  entry_read
  pointwise

/-- The body's value at one element of one block is the reference's value at the element's place in the array. -/
theorem point (c : Dev nD) (t : Fin cfg0.N) (y : S1024x1024.Idx) :
    k0_pay1 (iblk m c 0 t) (iblk m c 1 t) (iblk m c 2 t) y
      = ref (m ((c : Thread nD τ).loc main_arg0)) (m ((c : Thread nD τ).loc main_arg1)) (((cfg0.win 3).blk t).view.emb y) := by
  have ht : t.val < 32 := lt_of_lt_of_eq t.isLt N_0
  have hy : (y 1).val < 1024 := (y 1).isLt
  have e1 : (((cfg0.win 3).blk t).view.emb y 1).val = t.val % 2 * 1024 + (y 1).val := by
    blk_simp [idx t]
  have e2 : (show FVec Ideal S1x1024 .f32 from iblk m c 2 t) (ix2 0 (y 1))
      = (show FVec Ideal S1x2048 .f32 from V m c main_v2) (ix2 0 ⟨t.val % 2 * 1024 + (y 1).val, by omega⟩) := by
    blk_ext [iblk, idx t]
  rw [factors] at e2
  pointwise [k0_pay1, ref]
  simp only [e1]
  refine (congrArg _ e2).trans ?_
  by_cases h1 : t.val % 2 * 1024 + (y 1).val < 512
  · rw [dif_pos h1, dif_pos h1]
    blk_point [iblk, V, idx t]
  · rw [dif_neg h1, dif_neg h1, mul_one]
    by_cases h2 : t.val % 2 * 1024 + (y 1).val - 512 < 512
    · rw [dif_pos h2]
      blk_point [iblk, V, idx t]
    · rw [dif_neg h2]
      blk_point [iblk, V, idx t]

/-- The result array after the run. -/
theorem final (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The claim: both runs end with the same array. -/
theorem claim : algebraic_QkvKernelIdeal_QkvReferenceIdeal := by
  intro m ρ m' ρ' hpre hagree
  refine ⟨fun c => ref (m ((c : Thread nD τ).loc main_arg0)) (m ((c : Thread nD τ).loc main_arg1)),
    (θ_run defs _ _).mono (fun r h c => ⟨(h c).1.trans (final m c), (h c).2⟩) (Cert.QkvKernelIdeal.Value.run_blocks m ρ),
    (θ_run Cert.QkvReferenceIdeal.defs _ _).mono (fun r h c => ⟨(h c).1.trans ?_, (h c).2⟩)
      (Cert.QkvReferenceIdeal.Value.run m' ρ')⟩
  show ref (m' ((c.tc : Thread Cert.QkvReferenceIdeal.nD Cert.QkvReferenceIdeal.τ).loc Cert.QkvReferenceIdeal.main_arg0)) (m' ((c.tc : Thread Cert.QkvReferenceIdeal.nD Cert.QkvReferenceIdeal.τ).loc Cert.QkvReferenceIdeal.main_arg1)) = _
  simp only [hagree c]

end Cert.Proof.Qkv

end
-- ==== Proof.OutGate.lean ====
/-
  The recurrence's output gate: the kernel's array is the sigmoid of the reference's slice of the input projection.
-/
module

public import proofs.«01_k».proof.Defs
public import proofs.«01_k».proof.Proof.Gen.OutGateKernelIdeal.Value
public import proofs.«01_k».proof.Proof.Gen.OutGateReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.OutGate

section
open Cert.OutGateReferenceIdeal Cert.OutGateReferenceIdeal.Gen
/-- The reference's result as a function of its arguments. -/
abbrev ref (X0 : FVec Ideal S16384x2048 .bf16) (X1 : FVec Ideal S2048x10248 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 2048] (Host.dotGeneral dot_S16384x2048_S2048x10248_S16384x10248_1_0_0_1_n_n none (extf .f32 X0 bitsLt_bf16_f32) X1) slices_S16384x10248_S16384x1024_0_2048))))
end

open Cert.OutGateKernelIdeal Cert.OutGateKernelIdeal.Gen

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![t.val, 0] :=
  (by decide +kernel : ∀ t : Fin grid0.N, _)

/-- The body's value at one element of one block is the reference's value at the element's place in the array. -/
theorem point (c : Dev nD) (t : Fin cfg0.N) (y : S1024x1024.Idx) :
    k0_pay1 (iblk m c 0 t) (iblk m c 1 t) y
      = ref (m ((c : Thread nD τ).loc main_arg0)) (m ((c : Thread nD τ).loc main_arg1)) (((cfg0.win 2).blk t).view.emb y) := by
  pointwise [k0_pay1, ref, Ideal.logistic]
  blk_point [iblk, V, idx t]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim: both runs end with the same array. -/
theorem claim : algebraic_OutGateKernelIdeal_OutGateReferenceIdeal := by
  intro m ρ m' ρ' hpre hagree
  refine ⟨fun c => ref (m ((c : Thread nD τ).loc main_arg0)) (m ((c : Thread nD τ).loc main_arg1)),
    (θ_run defs _ _).mono (fun r h c => ⟨(h c).1.trans (final m c), (h c).2⟩) (Cert.OutGateKernelIdeal.Value.run_blocks m ρ),
    (θ_run Cert.OutGateReferenceIdeal.defs _ _).mono (fun r h c => ⟨(h c).1.trans ?_, (h c).2⟩)
      (Cert.OutGateReferenceIdeal.Value.run m' ρ')⟩
  simp only [hagree c]

end Cert.Proof.OutGate

end
-- ==== Proof.If.lean ====
/-
  The recurrence's gate logits: the kernel's array, eight columns of the input projection padded to 128.
-/
module

public import proofs.«01_k».proof.Defs
public import proofs.«01_k».proof.Proof.Gen.IfKernelIdeal.Value
public import proofs.«01_k».proof.Proof.Gen.IfReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.If

section
open Cert.IfReferenceIdeal Cert.IfReferenceIdeal.Gen
/-- The reference's result as a function of its arguments. -/
abbrev ref (X0 : FVec Ideal S16384x2048 .bf16) (X1 : FVec Ideal S2048x10248 .f32) : FVec Ideal S16384x128 .f32 :=
  concatenate S16384x128 1 [⟨S16384x8, (extractStridedSlice S16384x8 ![0, 3072] (Host.dotGeneral dot_S16384x2048_S2048x10248_S16384x10248_1_0_0_1_n_n none (extf .f32 X0 bitsLt_bf16_f32) X1) slices_S16384x10248_S16384x8_0_3072)⟩, ⟨S16384x120, (broadcastInDim S16384x120 ![] bcast_S_S16384x120 (constant S_ .f32 0x00000000#32))⟩] concatenates_S16384x8_S16384x120_S16384x128_d1
end

open Cert.IfKernelIdeal Cert.IfKernelIdeal.Gen

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![t.val, 0] :=
  (by decide +kernel : ∀ t : Fin grid0.N, _)

/-- The weight array the kernel is given, from the whole weight matrix: the eight gate columns, padded. -/
def padded (W : FVec Ideal S2048x10248 .f32) : FVec Ideal S2048x128 .bf16 :=
  truncf .bf16 (pad S2048x128 ![0, 0] ![0, 120] ![0, 0]
    (extractStridedSlice S2048x8 ![0, 3072] W slices_S2048x10248_S2048x8_0_3072)
    (sitofp .f32 (constantI S_ 32 0#32)) pads_S2048x8_S2048x128_000_01200 h_S_) bitsLt_bf16_f32

/-- The host's operations leave that array in the kernel's second operand. -/
theorem weights_eq (c : Dev nD) : V m c main_v2 = padded (m ((c : Thread nD τ).loc main_arg1)) := by
  show StableHlo.after [hostOps0, hostOps0_1, hostOps0_2].flatten (fun b => m (c, b)) (Proc.tc.devRef main_v2) = _
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results
  rfl

/-- The padded weights at an element: a gate column's weight, or zero. -/
theorem padded_apply (W : FVec Ideal S2048x10248 .f32) (k : Fin 2048) (j : Fin 128) :
    padded W (ix2 k j) = if h : j.val < 8 then W (ix2 k ⟨3072 + j.val, by omega⟩) else 0 := by
  have z : FloatOps.sitofp (F := Ideal) .f32 (0#32) = (0 : EReal) := by
    show (((0#32 : BitVec 32).toInt : ℝ) : EReal) = 0
    simp
  pointwise [padded]
  rw [z]

/-- The body's value at one element of one block is the reference's value at the element's place in the array. -/
theorem point (c : Dev nD) (t : Fin cfg0.N) (y : S1024x128.Idx) :
    k0_pay1 (iblk m c 0 t) (iblk m c 1 t) y
      = ref (m ((c : Thread nD τ).loc main_arg0)) (m ((c : Thread nD τ).loc main_arg1)) (((cfg0.win 2).blk t).view.emb y) := by
  have e : ∀ k : Fin 2048, (show FVec Ideal S2048x128 .bf16 from iblk m c 1 t) (ix2 k (y 1))
      = padded (m ((c : Thread nD τ).loc main_arg1)) (ix2 k (y 1)) := by
    intro k
    rw [← weights_eq]
    blk_ext [iblk, idx t]
  have e1 : (((cfg0.win 2).blk t).view.emb y 1).val = (y 1).val := by
    blk_simp [idx t]
  pointwise [k0_pay1, ref]
  simp only [e1]
  refine (Finset.sum_congr rfl fun k _ => congrArg _ ((e k).trans (padded_apply _ _ _))).trans ?_
  by_cases h : (y 1).val < 8
  · rw [dif_pos h]
    refine (Finset.sum_congr rfl fun k _ => congrArg _ (dif_pos h)).trans ?_
    blk_point [iblk, V, idx t]
  · rw [dif_neg h]
    refine (Finset.sum_congr rfl fun k _ => congrArg _ (dif_neg h)).trans ?_
    simp only [mul_zero, Finset.sum_const_zero]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim: both runs end with the same array. -/
theorem claim : algebraic_IfKernelIdeal_IfReferenceIdeal := by
  intro m ρ m' ρ' hpre hagree
  refine ⟨fun c => ref (m ((c : Thread nD τ).loc main_arg0)) (m ((c : Thread nD τ).loc main_arg1)),
    (θ_run defs _ _).mono (fun r h c => ⟨(h c).1.trans (final m c), (h c).2⟩) (Cert.IfKernelIdeal.Value.run_blocks m ρ),
    (θ_run Cert.IfReferenceIdeal.defs _ _).mono (fun r h c => ⟨(h c).1.trans ?_, (h c).2⟩)
      (Cert.IfReferenceIdeal.Value.run m' ρ')⟩
  show ref (m' ((c.tc : Thread Cert.IfReferenceIdeal.nD Cert.IfReferenceIdeal.τ).loc Cert.IfReferenceIdeal.main_arg0)) (m' ((c.tc : Thread Cert.IfReferenceIdeal.nD Cert.IfReferenceIdeal.τ).loc Cert.IfReferenceIdeal.main_arg1)) = _
  simp only [hagree c]

end Cert.Proof.If

end
-- ==== Proof.Qb.lean ====
/-
  The attention's queries: projected, normalized per head and scaled.
-/
module

public import proofs.«01_k».proof.Defs
public import proofs.«01_k».proof.Proof.Gen.QbKernelIdeal.Value
public import proofs.«01_k».proof.Proof.Gen.QbReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Qb

section
open Cert.QbReferenceIdeal Cert.QbReferenceIdeal.Gen
/-- The reference's result as a function of its arguments. -/
abbrev ref (X0 : FVec Ideal S16384x2048 .bf16) (X1 : FVec Ideal S2048x10248 .f32) (X2 : FVec Ideal S128 .f32) : FVec Ideal S16384x1024 .bf16 :=
  truncf .bf16 (shapeCast _ (mulf (mulf (mulf (shapeCast _ (extractStridedSlice S16384x1024 ![0, 3080] (Host.dotGeneral dot_S16384x2048_S2048x10248_S16384x10248_1_0_0_1_n_n none (extf .f32 X0 bitsLt_bf16_f32) X1) slices_S16384x10248_S16384x1024_0_3080) shapeCasts_S16384x1024_S16384x8x128) (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf (shapeCast _ (extractStridedSlice S16384x1024 ![0, 3080] (Host.dotGeneral dot_S16384x2048_S2048x10248_S16384x10248_1_0_0_1_n_n none (extf .f32 X0 bitsLt_bf16_f32) X1) slices_S16384x10248_S16384x1024_0_3080) shapeCasts_S16384x1024_S16384x8x128) (shapeCast _ (extractStridedSlice S16384x1024 ![0, 3080] (Host.dotGeneral dot_S16384x2048_S2048x10248_S16384x10248_1_0_0_1_n_n none (extf .f32 X0 bitsLt_bf16_f32) X1) slices_S16384x10248_S16384x1024_0_3080) shapeCasts_S16384x1024_S16384x8x128)) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32)))))) (broadcastInDim S16384x8x128 ![0, 1, 2] bcast_S1x1x128_S16384x8x128_0_1_2 (broadcastInDim S1x1x128 ![2] bcast_S128_S1x1x128_2 X2))) (broadcastInDim S16384x8x128 ![] bcast_S_S16384x8x128 (constant S_ .f32 0x3DB504F3#32))) shapeCasts_S16384x8x128_S16384x1024) bitsLt_bf16_f32
end

open Cert.QbKernelIdeal Cert.QbKernelIdeal.Gen

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The body on its blocks: the product, each group of 128 columns divided by its root mean square, times the gains. -/
def body (x0 : FVec Ideal S1024x2048 .bf16) (x1 : FVec Ideal S2048x1024 .bf16) (x2 : FVec Ideal S1x1024 .f32) :
    FVec Ideal S1024x1024 .bf16 :=
  k0_pay1 (k0_pay3 x2) (k0_pay4 x0 x1) (k0_pay5 x0 x1) (k0_pay6 x0 x1) (k0_pay9 (k0_pay7 x0 x1) (k0_pay8 x0 x1))
    (k0_pay10 (k0_pay2 x0 x1)) (k0_pay11 (k0_pay2 x0 x1)) (k0_pay12 (k0_pay2 x0 x1)) (k0_pay13 (k0_pay2 x0 x1))
    (k0_pay14 (k0_pay2 x0 x1)) (k0_pay15 (F := Ideal))

/-- A load of the whole block of rows is the block. -/
theorem ld_rows (x : Vec Ideal S1024x2048 .bf16) : View.ld (Val := Elt Ideal) (e' := .bf16) x r0_0 = x :=
  View.ld_unit_zero (Val := Elt Ideal) (S := S1024x2048) (off := ![0, 0]) (by decide) _ x

/-- A load of the whole block of weights is the block. -/
theorem ld_weights (x : Vec Ideal S2048x1024 .bf16) : View.ld (Val := Elt Ideal) (e' := .bf16) x r0_1 = x :=
  View.ld_unit_zero (Val := Elt Ideal) (S := S2048x1024) (off := ![0, 0]) (by decide) _ x

/-- The stored value as the run names it is the body. -/
theorem body_named (x0 : FVec Ideal S1024x2048 .bf16) (x1 : FVec Ideal S2048x1024 .bf16) (x2 : FVec Ideal S1x1024 .f32) :
    k0_pay1 (k0_pay3 x2) (k0_pay4 x0 x1) (k0_pay5 x0 x1) (k0_pay6 x0 x1) (k0_pay9 (k0_pay7 x0 x1) (k0_pay8 x0 x1))
    (k0_pay10 (k0_pay16 x0 x1 x2)) (k0_pay11 (k0_pay16 x0 x1 x2)) (k0_pay12 (k0_pay16 x0 x1 x2)) (k0_pay13 (k0_pay16 x0 x1 x2))
    (k0_pay14 (k0_pay16 x0 x1 x2)) (k0_pay15 (F := Ideal)) = body x0 x1 x2 := by
  have e : k0_pay16 (F := Ideal) x0 x1 x2 = k0_pay2 (F := Ideal) x0 x1 := by
    unfold k0_pay16
    exact congrArg₂ (k0_pay2 (F := Ideal)) (ld_rows x0) (ld_weights x1)
  rw [e, body]

/-- The column of head `h` at lane `e`. -/
def col (q : Fin 1024) (e : Fin 128) : Fin 1024 := ⟨q.val / 128 * 128 + e.val, by omega⟩

/-- The product at an element. -/
def acc (x0 : FVec Ideal S1024x2048 .bf16) (x1 : FVec Ideal S2048x1024 .bf16) (p q : Fin 1024) : EReal :=
  (k0_pay2 (F := Ideal) x0 x1 : FVec Ideal S1024x1024 .f32) (ix2 p q)

/-- A head's normalized element, however its columns are written. -/
theorem head_eq (A : Fin 1024 → EReal) (q q' : Fin 1024) (h : Fin 128 → Fin 1024) (e : q' = q) (e' : ∀ x, h x = col q x) :
    A q' * Ideal.rsqrt (Ideal.div (∑ x, A (h x) * A (h x)) (Ideal.ofBits .f32 0x43000000#32) + Ideal.ofBits .f32 0x358637BD#32)
      = A q * Ideal.rsqrt (Ideal.div (∑ x, A (col q x) * A (col q x)) (Ideal.ofBits .f32 0x43000000#32)
          + Ideal.ofBits .f32 0x358637BD#32) := by
  simp only [e, e']

/-- The body at an element. -/
theorem body_apply (x0 : FVec Ideal S1024x2048 .bf16) (x1 : FVec Ideal S2048x1024 .bf16) (x2 : FVec Ideal S1x1024 .f32)
    (p q : Fin 1024) :
    (body x0 x1 x2 (ix2 p q) : EReal) = acc x0 x1 p q
      * Ideal.rsqrt (Ideal.div (∑ e : Fin 128, acc x0 x1 p (col q e) * acc x0 x1 p (col q e))
          (Ideal.ofBits .f32 0x43000000#32) + Ideal.ofBits .f32 0x358637BD#32) * x2 (ix2 0 q) := by
  pointwise [body, k0_pay1, k0_pay3, k0_pay4, k0_pay5, k0_pay6, k0_pay7, k0_pay8, k0_pay9, k0_pay10, k0_pay11, k0_pay12,
    k0_pay13, k0_pay14, k0_pay15]
  refine congrArg (fun z : EReal => z * (x2 (ix2 0 q) : EReal)) ?_
  repeat' split
  all_goals
    refine head_eq (acc x0 x1 p) q _ _ ?_ fun e => Fin.ext ?_
    · first
        | rfl
        | exact Fin.ext (by dsimp only; omega)
    · dsimp only [col]
      omega

/-- The gains the kernel is given, at a column. -/
theorem gains_apply (c : Dev nD) (j : Fin 1) (q : Fin 1024) :
    (show FVec Ideal S1x1024 .f32 from V m c main_v7) (ix2 j q)
      = (show FVec Ideal S128 .f32 from m ((c : Thread nD τ).loc main_arg2)) (ix1 ⟨q.val % 128, Nat.mod_lt _ (by norm_num)⟩) * Ideal.ofBits .f32 0x3DB504F3#32 := by
  entry_read
  pointwise

/-- The body's value at one element of one block is the reference's value at the element's place in the array. -/
theorem point (c : Dev nD) (t : Fin cfg0.N) (y : S1024x1024.Idx) :
    body (iblk m c 0 t) (iblk m c 1 t) (iblk m c 2 t) y
      = ref (m ((c : Thread nD τ).loc main_arg0)) (m ((c : Thread nD τ).loc main_arg1)) (m ((c : Thread nD τ).loc main_arg2)) (((cfg0.win 3).blk t).view.emb y) := by
  rw [show y = ix2 (y 0) (y 1) from by blk_ext []]
  refine (body_apply _ _ _ _ _).trans ?_
  have g : (show FVec Ideal S1x1024 .f32 from iblk m c 2 t) (ix2 0 (y 1))
      = (show FVec Ideal S128 .f32 from m ((c : Thread nD τ).loc main_arg2)) (ix1 ⟨(y 1).val % 128, Nat.mod_lt _ (by norm_num)⟩) * Ideal.ofBits .f32 0x3DB504F3#32 := by
    refine Eq.trans ?_ (gains_apply m c 0 (y 1))
    blk_ext [iblk, idx t]
  have e1 : (((cfg0.win 3).blk t).view.emb y 1).val = (y 1).val := by
    blk_simp [idx t]
  pointwise [acc, k0_pay2, ref]
  refine (congrArg (fun z : EReal => _ * z) g).trans ?_
  refine (mul_assoc _ _ _).symm.trans ?_
  simp only [e1, col]
  blk_point [iblk, V, idx t]

/-- The result array after the run. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact (congrFun (body_named _ _ _) y).trans (point m c t y)

/-- The claim: both runs end with the same array. -/
theorem claim : algebraic_QbKernelIdeal_QbReferenceIdeal := by
  intro m ρ m' ρ' hpre hagree
  refine ⟨fun c => ref (m ((c : Thread nD τ).loc main_arg0)) (m ((c : Thread nD τ).loc main_arg1)) (m ((c : Thread nD τ).loc main_arg2)),
    (θ_run defs _ _).mono (fun r h c => ⟨(h c).1.trans (final m c), (h c).2⟩) (Cert.QbKernelIdeal.Value.run_blocks m ρ),
    (θ_run Cert.QbReferenceIdeal.defs _ _).mono (fun r h c => ⟨(h c).1.trans ?_, (h c).2⟩)
      (Cert.QbReferenceIdeal.Value.run m' ρ')⟩
  show ref (m' ((c.tc : Thread Cert.QbReferenceIdeal.nD Cert.QbReferenceIdeal.τ).loc Cert.QbReferenceIdeal.main_arg0)) (m' ((c.tc : Thread Cert.QbReferenceIdeal.nD Cert.QbReferenceIdeal.τ).loc Cert.QbReferenceIdeal.main_arg1)) (m' ((c.tc : Thread Cert.QbReferenceIdeal.nD Cert.QbReferenceIdeal.τ).loc Cert.QbReferenceIdeal.main_arg2)) = _
  simp only [hagree c]

end Cert.Proof.Qb

end
-- ==== Proof.Kb.lean ====
/-
  The attention's keys: projected and normalized per head.
-/
module

public import proofs.«01_k».proof.Defs
public import proofs.«01_k».proof.Proof.Gen.KbKernelIdeal.Value
public import proofs.«01_k».proof.Proof.Gen.KbReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Kb

section
open Cert.KbReferenceIdeal Cert.KbReferenceIdeal.Gen
/-- The reference's result as a function of its arguments. -/
abbrev ref (X0 : FVec Ideal S16384x2048 .bf16) (X1 : FVec Ideal S2048x10248 .f32) (X2 : FVec Ideal S128 .f32) : FVec Ideal S16384x1024 .bf16 :=
  truncf .bf16 (shapeCast _ (mulf (mulf (shapeCast _ (extractStridedSlice S16384x1024 ![0, 4104] (Host.dotGeneral dot_S16384x2048_S2048x10248_S16384x10248_1_0_0_1_n_n none (extf .f32 X0 bitsLt_bf16_f32) X1) slices_S16384x10248_S16384x1024_0_4104) shapeCasts_S16384x1024_S16384x8x128) (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf (shapeCast _ (extractStridedSlice S16384x1024 ![0, 4104] (Host.dotGeneral dot_S16384x2048_S2048x10248_S16384x10248_1_0_0_1_n_n none (extf .f32 X0 bitsLt_bf16_f32) X1) slices_S16384x10248_S16384x1024_0_4104) shapeCasts_S16384x1024_S16384x8x128) (shapeCast _ (extractStridedSlice S16384x1024 ![0, 4104] (Host.dotGeneral dot_S16384x2048_S2048x10248_S16384x10248_1_0_0_1_n_n none (extf .f32 X0 bitsLt_bf16_f32) X1) slices_S16384x10248_S16384x1024_0_4104) shapeCasts_S16384x1024_S16384x8x128)) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32)))))) (broadcastInDim S16384x8x128 ![0, 1, 2] bcast_S1x1x128_S16384x8x128_0_1_2 (broadcastInDim S1x1x128 ![2] bcast_S128_S1x1x128_2 X2))) shapeCasts_S16384x8x128_S16384x1024) bitsLt_bf16_f32
end

open Cert.KbKernelIdeal Cert.KbKernelIdeal.Gen

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The body on its blocks: the product, each group of 128 columns divided by its root mean square, times the gains. -/
def body (x0 : FVec Ideal S1024x2048 .bf16) (x1 : FVec Ideal S2048x1024 .bf16) (x2 : FVec Ideal S1x1024 .f32) :
    FVec Ideal S1024x1024 .bf16 :=
  k0_pay1 (k0_pay3 x2) (k0_pay4 x0 x1) (k0_pay5 x0 x1) (k0_pay6 x0 x1) (k0_pay9 (k0_pay7 x0 x1) (k0_pay8 x0 x1))
    (k0_pay10 (k0_pay2 x0 x1)) (k0_pay11 (k0_pay2 x0 x1)) (k0_pay12 (k0_pay2 x0 x1)) (k0_pay13 (k0_pay2 x0 x1))
    (k0_pay14 (k0_pay2 x0 x1)) (k0_pay15 (F := Ideal))

/-- A load of the whole block of rows is the block. -/
theorem ld_rows (x : Vec Ideal S1024x2048 .bf16) : View.ld (Val := Elt Ideal) (e' := .bf16) x r0_0 = x :=
  View.ld_unit_zero (Val := Elt Ideal) (S := S1024x2048) (off := ![0, 0]) (by decide) _ x

/-- A load of the whole block of weights is the block. -/
theorem ld_weights (x : Vec Ideal S2048x1024 .bf16) : View.ld (Val := Elt Ideal) (e' := .bf16) x r0_1 = x :=
  View.ld_unit_zero (Val := Elt Ideal) (S := S2048x1024) (off := ![0, 0]) (by decide) _ x

/-- The stored value as the run names it is the body. -/
theorem body_named (x0 : FVec Ideal S1024x2048 .bf16) (x1 : FVec Ideal S2048x1024 .bf16) (x2 : FVec Ideal S1x1024 .f32) :
    k0_pay1 (k0_pay3 x2) (k0_pay4 x0 x1) (k0_pay5 x0 x1) (k0_pay6 x0 x1) (k0_pay9 (k0_pay7 x0 x1) (k0_pay8 x0 x1))
    (k0_pay10 (k0_pay16 x0 x1 x2)) (k0_pay11 (k0_pay16 x0 x1 x2)) (k0_pay12 (k0_pay16 x0 x1 x2)) (k0_pay13 (k0_pay16 x0 x1 x2))
    (k0_pay14 (k0_pay16 x0 x1 x2)) (k0_pay15 (F := Ideal)) = body x0 x1 x2 := by
  have e : k0_pay16 (F := Ideal) x0 x1 x2 = k0_pay2 (F := Ideal) x0 x1 := by
    unfold k0_pay16
    exact congrArg₂ (k0_pay2 (F := Ideal)) (ld_rows x0) (ld_weights x1)
  rw [e, body]

/-- The column of head `h` at lane `e`. -/
def col (q : Fin 1024) (e : Fin 128) : Fin 1024 := ⟨q.val / 128 * 128 + e.val, by omega⟩

/-- The product at an element. -/
def acc (x0 : FVec Ideal S1024x2048 .bf16) (x1 : FVec Ideal S2048x1024 .bf16) (p q : Fin 1024) : EReal :=
  (k0_pay2 (F := Ideal) x0 x1 : FVec Ideal S1024x1024 .f32) (ix2 p q)

/-- A head's normalized element, however its columns are written. -/
theorem head_eq (A : Fin 1024 → EReal) (q q' : Fin 1024) (h : Fin 128 → Fin 1024) (e : q' = q) (e' : ∀ x, h x = col q x) :
    A q' * Ideal.rsqrt (Ideal.div (∑ x, A (h x) * A (h x)) (Ideal.ofBits .f32 0x43000000#32) + Ideal.ofBits .f32 0x358637BD#32)
      = A q * Ideal.rsqrt (Ideal.div (∑ x, A (col q x) * A (col q x)) (Ideal.ofBits .f32 0x43000000#32)
          + Ideal.ofBits .f32 0x358637BD#32) := by
  simp only [e, e']

/-- The body at an element. -/
theorem body_apply (x0 : FVec Ideal S1024x2048 .bf16) (x1 : FVec Ideal S2048x1024 .bf16) (x2 : FVec Ideal S1x1024 .f32)
    (p q : Fin 1024) :
    (body x0 x1 x2 (ix2 p q) : EReal) = acc x0 x1 p q
      * Ideal.rsqrt (Ideal.div (∑ e : Fin 128, acc x0 x1 p (col q e) * acc x0 x1 p (col q e))
          (Ideal.ofBits .f32 0x43000000#32) + Ideal.ofBits .f32 0x358637BD#32) * x2 (ix2 0 q) := by
  pointwise [body, k0_pay1, k0_pay3, k0_pay4, k0_pay5, k0_pay6, k0_pay7, k0_pay8, k0_pay9, k0_pay10, k0_pay11, k0_pay12,
    k0_pay13, k0_pay14, k0_pay15]
  refine congrArg (fun z : EReal => z * (x2 (ix2 0 q) : EReal)) ?_
  repeat' split
  all_goals
    refine head_eq (acc x0 x1 p) q _ _ ?_ fun e => Fin.ext ?_
    · first
        | rfl
        | exact Fin.ext (by dsimp only; omega)
    · dsimp only [col]
      omega

/-- The gains the kernel is given, at a column. -/
theorem gains_apply (c : Dev nD) (j : Fin 1) (q : Fin 1024) :
    (show FVec Ideal S1x1024 .f32 from V m c main_v5) (ix2 j q)
      = (show FVec Ideal S128 .f32 from m ((c : Thread nD τ).loc main_arg2)) (ix1 ⟨q.val % 128, Nat.mod_lt _ (by norm_num)⟩) := by
  entry_read
  pointwise

/-- The body's value at one element of one block is the reference's value at the element's place in the array. -/
theorem point (c : Dev nD) (t : Fin cfg0.N) (y : S1024x1024.Idx) :
    body (iblk m c 0 t) (iblk m c 1 t) (iblk m c 2 t) y
      = ref (m ((c : Thread nD τ).loc main_arg0)) (m ((c : Thread nD τ).loc main_arg1)) (m ((c : Thread nD τ).loc main_arg2)) (((cfg0.win 3).blk t).view.emb y) := by
  rw [show y = ix2 (y 0) (y 1) from by blk_ext []]
  refine (body_apply _ _ _ _ _).trans ?_
  have g : (show FVec Ideal S1x1024 .f32 from iblk m c 2 t) (ix2 0 (y 1))
      = (show FVec Ideal S128 .f32 from m ((c : Thread nD τ).loc main_arg2)) (ix1 ⟨(y 1).val % 128, Nat.mod_lt _ (by norm_num)⟩) := by
    refine Eq.trans ?_ (gains_apply m c 0 (y 1))
    blk_ext [iblk, idx t]
  have e1 : (((cfg0.win 3).blk t).view.emb y 1).val = (y 1).val := by
    blk_simp [idx t]
  pointwise [acc, k0_pay2, ref]
  refine (congrArg (fun z : EReal => _ * z) g).trans ?_
  simp only [e1, col]
  blk_point [iblk, V, idx t]

/-- The result array after the run. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact (congrFun (body_named _ _ _) y).trans (point m c t y)

/-- The claim: both runs end with the same array. -/
theorem claim : algebraic_KbKernelIdeal_KbReferenceIdeal := by
  intro m ρ m' ρ' hpre hagree
  refine ⟨fun c => ref (m ((c : Thread nD τ).loc main_arg0)) (m ((c : Thread nD τ).loc main_arg1)) (m ((c : Thread nD τ).loc main_arg2)),
    (θ_run defs _ _).mono (fun r h c => ⟨(h c).1.trans (final m c), (h c).2⟩) (Cert.KbKernelIdeal.Value.run_blocks m ρ),
    (θ_run Cert.KbReferenceIdeal.defs _ _).mono (fun r h c => ⟨(h c).1.trans ?_, (h c).2⟩)
      (Cert.KbReferenceIdeal.Value.run m' ρ')⟩
  show ref (m' ((c.tc : Thread Cert.KbReferenceIdeal.nD Cert.KbReferenceIdeal.τ).loc Cert.KbReferenceIdeal.main_arg0)) (m' ((c.tc : Thread Cert.KbReferenceIdeal.nD Cert.KbReferenceIdeal.τ).loc Cert.KbReferenceIdeal.main_arg1)) (m' ((c.tc : Thread Cert.KbReferenceIdeal.nD Cert.KbReferenceIdeal.τ).loc Cert.KbReferenceIdeal.main_arg2)) = _
  simp only [hagree c]

end Cert.Proof.Kb

end
-- ==== Proof.Vb.lean ====
/-
  The attention's values: the kernel's array is the reference's slice of the input projection.
-/
module

public import proofs.«01_k».proof.Defs
public import proofs.«01_k».proof.Proof.Gen.VbKernelIdeal.Value
public import proofs.«01_k».proof.Proof.Gen.VbReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Vb

section
open Cert.VbReferenceIdeal Cert.VbReferenceIdeal.Gen
/-- The reference's result as a function of its arguments. -/
abbrev ref (X0 : FVec Ideal S16384x2048 .bf16) (X1 : FVec Ideal S2048x10248 .f32) : FVec Ideal S16384x1024 .bf16 :=
  truncf .bf16 (extractStridedSlice S16384x1024 ![0, 5128] (Host.dotGeneral dot_S16384x2048_S2048x10248_S16384x10248_1_0_0_1_n_n none (extf .f32 X0 bitsLt_bf16_f32) X1) slices_S16384x10248_S16384x1024_0_5128) bitsLt_bf16_f32
end

open Cert.VbKernelIdeal Cert.VbKernelIdeal.Gen

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![t.val, 0] :=
  (by decide +kernel : ∀ t : Fin grid0.N, _)

/-- The body's value at one element of one block is the reference's value at the element's place in the array. -/
theorem point (c : Dev nD) (t : Fin cfg0.N) (y : S1024x1024.Idx) :
    k0_pay1 (iblk m c 0 t) (iblk m c 1 t) y
      = ref (m ((c : Thread nD τ).loc main_arg0)) (m ((c : Thread nD τ).loc main_arg1)) (((cfg0.win 2).blk t).view.emb y) := by
  pointwise [k0_pay1, ref]
  blk_point [iblk, V, idx t]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim: both runs end with the same array. -/
theorem claim : algebraic_VbKernelIdeal_VbReferenceIdeal := by
  intro m ρ m' ρ' hpre hagree
  refine ⟨fun c => ref (m ((c : Thread nD τ).loc main_arg0)) (m ((c : Thread nD τ).loc main_arg1)),
    (θ_run defs _ _).mono (fun r h c => ⟨(h c).1.trans (final m c), (h c).2⟩) (Cert.VbKernelIdeal.Value.run_blocks m ρ),
    (θ_run Cert.VbReferenceIdeal.defs _ _).mono (fun r h c => ⟨(h c).1.trans ?_, (h c).2⟩)
      (Cert.VbReferenceIdeal.Value.run m' ρ')⟩
  simp only [hagree c]

end Cert.Proof.Vb

end
-- ==== Proof.Norm.lean ====
/-
  The first normalization: the kernel's array after its grid of row blocks is the reference's RMS normalization of `x`.
-/
module

public import proofs.«01_k».proof.Defs
public import proofs.«01_k».proof.Proof.Gen.NormKernelIdeal.Value
public import proofs.«01_k».proof.Proof.Gen.NormReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Norm

section
open Cert.NormReferenceIdeal Cert.NormReferenceIdeal.Gen
/-- The reference's result as a function of its arguments. -/
abbrev ref (X0 : FVec Ideal S16384x2048 .f32) (X1 : FVec Ideal S2048 .f32) : FVec Ideal S16384x2048 .bf16 :=
  truncf .bf16 (mulf (mulf X0 (broadcastInDim S16384x2048 ![0, 1] bcast_S16384x1_S16384x2048_0_1 (Host.rsqrt (addf (Host.divf (broadcastInDim S16384x1 ![0] bcast_S16384_S16384x1_0 (Host.reduceAdd (mulf X0 X0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 X1))) bitsLt_bf16_f32
end

open Cert.NormKernelIdeal Cert.NormKernelIdeal.Gen

variable (m : (ℓ : Loc nD τ sig) → Buf (Elt Ideal) ℓ)

/-- Where each window's block lies at each grid point. -/
theorem idx : ∀ t : Fin cfg0.N, win0_0.index t = ![t.val, 0] ∧ win0_1.index t = ![0, 0] ∧ win0_2.index t = ![t.val, 0] :=
  (by decide +kernel : ∀ t : Fin grid0.N, _)

/-- The body's value at one element of one block is the reference's value at the element's place in the array. -/
theorem point (c : Dev nD) (t : Fin cfg0.N) (y : S512x2048.Idx) :
    k0_pay1 (iblk m c 0 t) (iblk m c 1 t) y
      = ref (m ((c : Thread nD τ).loc main_arg0)) (m ((c : Thread nD τ).loc main_arg1)) (((cfg0.win 2).blk t).view.emb y) := by
  pointwise [k0_pay1, ref]
  blk_point [iblk, V, idx t]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim: both runs end with the same array. -/
theorem claim : algebraic_NormKernelIdeal_NormReferenceIdeal := by
  intro m ρ m' ρ' hpre hagree
  refine ⟨fun c => ref (m ((c : Thread nD τ).loc main_arg0)) (m ((c : Thread nD τ).loc main_arg1)),
    (θ_run defs _ _).mono (fun r h c => ⟨(h c).1.trans (final m c), (h c).2⟩) (Cert.NormKernelIdeal.Value.run_blocks m ρ),
    (θ_run Cert.NormReferenceIdeal.defs _ _).mono (fun r h c => ⟨(h c).1.trans ?_, (h c).2⟩)
      (Cert.NormReferenceIdeal.Value.run m' ρ')⟩
  simp only [hagree c]

end Cert.Proof.Norm

end
-- ==== Proof.MlstmSpec.lean ====
/-
  One chunk of the gated recurrence for one head, written with extended reals: what the chunk gives out and what it
  leaves in the state.
-/
module

public import Idealize.ShloMosaic.Lib.Pointwise
public import Idealize.ShloMosaic.Lib.IdealHost

@[expose] public section

noncomputable section

open Idealize.ShloMosaic

namespace Cert.Proof.Mlstm

/-- The value every maximum starts from. -/
abbrev lowest : EReal := Ideal.ofBits .f32 0xFF800000#32

/-- A chunk of one head: queries, keys, values, input gates, running sums of the log forget gates. -/
structure Chunk where
  q : Fin 128 → Fin 128 → EReal
  k : Fin 128 → Fin 128 → EReal
  v : Fin 128 → Fin 256 → EReal
  ig : Fin 128 → EReal
  b : Fin 128 → EReal

/-- The state of one head: matrix memory, normalizer and stabilizer. -/
structure State where
  C : Fin 128 → Fin 256 → EReal
  n : Fin 128 → EReal
  M : EReal

/-- The state the recurrence starts from. -/
def State.zero : State := ⟨fun _ _ => 0, fun _ => 0, 0⟩

/-- The soft cap of a gate logit. -/
def cap (x : EReal) : EReal :=
  Ideal.ofBits .f32 0x41700000#32 * Ideal.tanh (Ideal.div x (Ideal.ofBits .f32 0x41700000#32))

/-- The logarithm of the logistic function. -/
def logSigmoid (x : EReal) : EReal := min x 0 - Ideal.log1p (Ideal.exp (0 - FloatOps.absf (F := Ideal) (φ := .f32) x))

/-- The running sum. -/
def runningSum (f : Fin 128 → EReal) (l : Fin 128) : EReal := ∑ j : Fin 128, if j ≤ l then f j else 0

namespace Chunk

variable (K : Chunk) (S : State)

/-- The log weight of position `s` for row `l`. -/
def logD (l s : Fin 128) : EReal := if s ≤ l then K.b l - K.b s + K.ig s else lowest

/-- The row's stabilizer. -/
def rowMax (l : Fin 128) : EReal := max (K.b l + S.M) (Finset.univ.fold max lowest fun s => K.logD l s)

/-- The weighted score. -/
def score (l s : Fin 128) : EReal := (∑ x, K.q l x * K.k s x) * Ideal.exp (K.logD l s - K.rowMax S l)

/-- The weight of the state for a row. -/
def inter (l : Fin 128) : EReal := Ideal.exp (K.b l + S.M - K.rowMax S l)

/-- The row's numerator. -/
def num (l : Fin 128) (e : Fin 256) : EReal := ∑ s, K.score S l s * K.v s e + K.inter S l * ∑ x, K.q l x * S.C x e

/-- The row's denominator, before it is bounded below. -/
def den (l : Fin 128) : EReal := ∑ s, K.score S l s + K.inter S l * ∑ x, K.q l x * S.n x

/-- The row's denominator. -/
def scale (l : Fin 128) : EReal :=
  max (FloatOps.absf (F := Ideal) (φ := .f32) (K.den S l)) (Ideal.exp (0 - K.rowMax S l))

/-- The row's output. -/
def hidden (l : Fin 128) (e : Fin 256) : EReal := K.num S l e * Ideal.div 1 (K.scale S l)

/-- The log weight of a position for the state. -/
def logW (s : Fin 128) : EReal := K.b 127 - K.b s + K.ig s

/-- The state's new stabilizer. -/
def newMax : EReal := max (K.b 127 + S.M) (Finset.univ.fold max lowest fun s => K.logW s)

/-- The weight of a position for the state. -/
def weight (s : Fin 128) : EReal := Ideal.exp (K.logW s - K.newMax S)

/-- The decay of the state. -/
def decay : EReal := Ideal.exp (K.b 127 + S.M - K.newMax S)

/-- The state after the chunk. -/
def next : State :=
  ⟨fun d e => K.decay S * S.C d e + ∑ s, K.k s d * K.weight S s * K.v s e,
    fun d => K.decay S * S.n d + ∑ s, K.k s d * K.weight S s, K.newMax S⟩

end Chunk

/-- A head's row over its root mean square. -/
def normed (f : Fin 256 → EReal) (e : Fin 256) : EReal :=
  f e * Ideal.rsqrt (Ideal.div (∑ x, f x * f x) (Ideal.ofBits .f32 0x43800000#32) + Ideal.ofBits .f32 0x358637BD#32)

/-- The comparison of two positions, as the words have it. -/
theorem cmp_causal (l s : Fin 128) :
    IntOp.cmpi .sge (BitVec.ofNat 32 l.val) (BitVec.ofNat 32 s.val) = if s ≤ l then 1#1 else 0#1 := by
  revert l s
  decide +kernel

/-- A choice by the comparison. -/
theorem select_causal (l s : Fin 128) (a b : EReal) :
    Scalar.select (IntOp.cmpi .sge (BitVec.ofNat 32 l.val) (BitVec.ofNat 32 s.val)) a b = if s ≤ l then a else b := by
  rw [cmp_causal]
  by_cases h : s ≤ l
  · simp [h, Scalar.select]
  · simp [h, Scalar.select]

/-- The comparison as a number, times a value. -/
theorem causal_mul (l s : Fin 128) (a : EReal) :
    (FloatOps.sitofp (F := Ideal) .f32 (BitVec.setWidth 32 (IntOp.cmpi .sge (BitVec.ofNat 32 l.val) (BitVec.ofNat 32 s.val))) : EReal) * a
      = if s ≤ l then a else 0 := by
  rw [cmp_causal]
  by_cases h : s ≤ l
  · rw [if_pos h, if_pos h]
    show (((BitVec.setWidth 32 1#1 : BitVec 32).toInt : ℝ) : EReal) * a = a
    simp
  · rw [if_neg h, if_neg h]
    show (((BitVec.setWidth 32 0#1 : BitVec 32).toInt : ℝ) : EReal) * a = 0
    simp

/-! ### The whole sequence -/

/-- Row `l` of chunk `t`. -/
def row (t l : Fin 128) : Fin 16384 := ⟨t.val * 128 + l.val, by omega⟩

/-- The call's arguments. -/
structure Args where
  qkv : Fin 16384 → Fin 2048 → EReal
  pre : Fin 16384 → Fin 128 → EReal
  bias : Fin 8 → EReal
  gain : Fin 1024 → EReal
  out : Fin 16384 → Fin 1024 → EReal

namespace Args

variable (A : Args)

/-- The capped gate logit. -/
def gate (r : Fin 16384) (g : Fin 8) : EReal := cap (A.pre r ⟨g.val, by omega⟩ + A.bias g)

/-- Chunk `t` of head `h`. -/
def chunk (t : Fin 128) (h : Fin 4) : Chunk :=
  ⟨fun l d => A.qkv (row t l) ⟨h.val * 128 + d.val, by omega⟩,
    fun l d => A.qkv (row t l) ⟨512 + (h.val * 128 + d.val), by omega⟩,
    fun l e => A.qkv (row t l) ⟨1024 + (h.val * 256 + e.val), by omega⟩,
    fun s => A.gate (row t s) ⟨h.val, by omega⟩,
    runningSum fun s => logSigmoid (A.gate (row t s) ⟨4 + h.val, by omega⟩)⟩

/-- The state of head `h` before chunk `t`. -/
def state (h : Fin 4) : ℕ → State
  | 0 => State.zero
  | t + 1 => if ht : t < 128 then (A.chunk ⟨t, ht⟩ h).next (state h t) else state h t

/-- The head's output for row `l` of chunk `t`. -/
def hidden (t : Fin 128) (h : Fin 4) (l : Fin 128) (e : Fin 256) : EReal := (A.chunk t h).hidden (A.state h t.val) l e

/-- The call's result at row `l` of chunk `t`, lane `e` of head `h`. -/
def result (t : Fin 128) (h : Fin 4) (l : Fin 128) (e : Fin 256) : EReal :=
  normed (A.hidden t h l) e * A.gain ⟨h.val * 256 + e.val, by omega⟩ * A.out (row t l) ⟨h.val * 256 + e.val, by omega⟩

/-- One step of the state. -/
theorem state_succ (h : Fin 4) (t : Fin 128) : A.state h (t.val + 1) = (A.chunk t h).next (A.state h t.val) := by
  show (if ht : t.val < 128 then _ else _) = _
  rw [dif_pos t.isLt]

end Args

end Cert.Proof.Mlstm

end
-- ==== Proof.MlstmHead.lean ====
/-
  What the kernel computes for one head from one chunk, as the chunk's mathematics: the output, and the new state.
-/
module

public import proofs.«01_k».proof.Defs
public import proofs.«01_k».proof.Proof.Gen.MlstmKernelIdeal.Value
public import proofs.«01_k».proof.Proof.MlstmSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Mlstm

open Cert.MlstmKernelIdeal Cert.MlstmKernelIdeal.Gen

variable (q k : FVec Ideal S128x128 .bf16) (v : FVec Ideal S128x256 .bf16) (igr br : FVec Ideal S1x128 .f32)
  (igc bc : FVec Ideal S128x1 .f32) (M : FVec Ideal S1x1 .f32) (C : FVec Ideal S1x128x256 .f32) (n : FVec Ideal S1x128 .f32)
  (nh : FVec Ideal S1x256 .f32) (og : FVec Ideal S128x256 .f32) (x3 : FVec Ideal S128x128 .f32) (x4 : FVec Ideal S1x128 .f32)

/-- The gate logits, capped, at an element. -/
theorem gate_apply (l h : Fin 128) :
    ((k0_pay5 (F := Ideal) x3 x4 : FVec Ideal S128x128 .f32) (ix2 l h) : EReal) = cap (x3 (ix2 l h) + x4 (ix2 0 h)) := by
  pointwise [k0_pay5, cap]

/-- The running sums of the log forget gates at an element. -/
theorem sums_apply (l h : Fin 128) :
    ((k0_pay7 (F := Ideal) x3 x4 : FVec Ideal S128x128 .f32) (ix2 l h) : EReal)
      = runningSum (fun s => logSigmoid (cap (x3 (ix2 s h) + x4 (ix2 0 h)))) l := by
  pointwise [k0_pay7, k0_pay6]
  simp only [gate_apply, runningSum]
  exact Finset.sum_congr rfl fun s _ => causal_mul l s _

/-- The state its operands make. -/
def stateF : State := ⟨fun d e => C (ix3 0 d e), fun d => n (ix2 0 d), M (ix2 0 0)⟩

/-- Head number `g`'s chunk: its gates are columns `g` and `f` of the block of logits. -/
def chunkH (g f : Fin 128) : Chunk :=
  ⟨fun l d => q (ix2 l d), fun l d => k (ix2 l d), fun l e => v (ix2 l e),
    fun s => (k0_pay5 (F := Ideal) x3 x4 : FVec Ideal S128x128 .f32) (ix2 s g),
    fun s => (k0_pay7 (F := Ideal) x3 x4 : FVec Ideal S128x128 .f32) (ix2 s f)⟩

/-- Two chunks agree when their parts do. -/
theorem chunkH_eq {g f : Fin 128} (K : Chunk) (hq : ∀ l d, (q (ix2 l d) : EReal) = K.q l d) (hk : ∀ l d, (k (ix2 l d) : EReal) = K.k l d)
    (hv : ∀ l e, (v (ix2 l e) : EReal) = K.v l e)
    (hg : ∀ s, (k0_pay5 (F := Ideal) x3 x4 : FVec Ideal S128x128 .f32) (ix2 s g) = K.ig s)
    (hf : ∀ s, (k0_pay7 (F := Ideal) x3 x4 : FVec Ideal S128x128 .f32) (ix2 s f) = K.b s) : chunkH q k v x3 x4 g f = K := by
  obtain ⟨Kq, Kk, Kv, Kg, Kb⟩ := K
  simp only [chunkH, hq, hk, hv, hg, hf]

/-- Two states agree when their parts do. -/
theorem stateF_eq (S : State) (hM : (M (ix2 0 0) : EReal) = S.M) (hC : ∀ d e, (C (ix3 0 d e) : EReal) = S.C d e)
    (hn : ∀ d, (n (ix2 0 d) : EReal) = S.n d) : stateF M C n = S := by
  obtain ⟨SC, Sn, SM⟩ := S
  simp only [stateF, hM, hC, hn]

/-- The output's value from equal parts. -/
theorem value_congr {K K' : Chunk} {S S' : State} {l : Fin 128} {e : Fin 256} {a a' b b' : EReal} (hK : K = K') (hS : S = S')
    (ha : a = a') (hb : b = b') : normed (K.hidden S l) e * a * b = normed (K'.hidden S' l) e * a' * b' := by
  rw [hK, hS, ha, hb]

end Cert.Proof.Mlstm

end
-- ==== Proof.MlstmHeads.lean ====
/-
  The four heads: each head's stores, however they are cut into pieces, are the same functions of that head's operands.
-/
module

public import proofs.«01_k».proof.Defs
public import proofs.«01_k».proof.Proof.MlstmHead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Mlstm

open Cert.MlstmKernelIdeal Cert.MlstmKernelIdeal.Gen

variable (q k : FVec Ideal S128x128 .bf16) (v : FVec Ideal S128x256 .bf16) (igr br : FVec Ideal S1x128 .f32)
  (igc bc : FVec Ideal S128x1 .f32) (M : FVec Ideal S1x1 .f32) (C : FVec Ideal S1x128x256 .f32) (n : FVec Ideal S1x128 .f32)
  (nh : FVec Ideal S1x256 .f32) (og : FVec Ideal S128x256 .f32) (x3 : FVec Ideal S128x128 .f32) (x4 : FVec Ideal S1x128 .f32)

/-- The first head's output. -/
theorem out0 (l : Fin 128) (e : Fin 256) :
    ((k0_pay17 (F := Ideal) (k0_pay15 k0_pay6 q k v (k0_pay11 x3 x4) (k0_pay12 x3 x4) (k0_pay13 x3 x4) M C n) (k0_pay16 k0_pay6 q k v (k0_pay11 x3 x4) (k0_pay12 x3 x4) (k0_pay13 x3 x4) M C n) nh og) (ix2 l e) : EReal)
      = normed ((chunkH q k v x3 x4 0 4).hidden (stateF M C n) l) e * nh (ix2 0 e) * og (ix2 l e) := by
  pointwise [k0_pay6, k0_pay8, k0_pay9, k0_pay11, k0_pay12, k0_pay13, k0_pay14, k0_pay15, k0_pay16, k0_pay17]
  simp only [select_causal, normed, Chunk.hidden, Chunk.num, Chunk.den, Chunk.scale, Chunk.score, Chunk.inter, Chunk.rowMax,
    Chunk.logD, chunkH, stateF]

/-- The first head's new matrix memory. -/
theorem mem0 (d : Fin 128) (e : Fin 256) :
    ((k0_pay23 (F := Ideal) k v (k0_pay10 x3 x4) (k0_pay12 x3 x4) M (k0_pay14 C)) (ix3 0 d e) : EReal)
      = ((chunkH q k v x3 x4 0 4).next (stateF M C n)).C d e := by
  pointwise [k0_pay10, k0_pay12, k0_pay14, k0_pay18, k0_pay19, k0_pay20, k0_pay21, k0_pay22, k0_pay23]
  simp only [Chunk.next, Chunk.decay, Chunk.weight, Chunk.newMax, Chunk.logW, chunkH, stateF]

/-- The first head's new normalizer. -/
theorem nrm0 (d : Fin 128) :
    ((k0_pay25 (F := Ideal) (k0_pay21 k (k0_pay10 x3 x4) (k0_pay12 x3 x4) M) (k0_pay24 (k0_pay10 x3 x4) (k0_pay12 x3 x4) M n)) (ix2 0 d) : EReal)
      = ((chunkH q k v x3 x4 0 4).next (stateF M C n)).n d := by
  pointwise [k0_pay10, k0_pay12, k0_pay18, k0_pay19, k0_pay20, k0_pay21, k0_pay22, k0_pay24, k0_pay25]
  simp only [Chunk.next, Chunk.decay, Chunk.weight, Chunk.newMax, Chunk.logW, chunkH, stateF]

/-- The first head's new stabilizer. -/
theorem stb0 (d : Fin 128) :
    ((k0_pay26 (F := Ideal) (k0_pay20 (k0_pay10 x3 x4) (k0_pay12 x3 x4) M)) (ix2 0 d) : EReal)
      = ((chunkH q k v x3 x4 0 4).next (stateF M C n)).M := by
  pointwise [k0_pay10, k0_pay12, k0_pay18, k0_pay19, k0_pay20, k0_pay26]
  simp only [Chunk.next, Chunk.decay, Chunk.weight, Chunk.newMax, Chunk.logW, chunkH, stateF]

/-- The second head's output. -/
theorem out1 (l : Fin 128) (e : Fin 256) :
    ((k0_pay35 (F := Ideal) q v (k0_pay29 C) n (k0_pay31 (k0_pay7 x3 x4) M) (k0_pay32 k0_pay6 (k0_pay7 x3 x4) (k0_pay8 x3 x4) (k0_pay9 x3 x4) M) (k0_pay33 q k) (k0_pay34 k0_pay6 (k0_pay7 x3 x4) (k0_pay8 x3 x4) (k0_pay9 x3 x4) M) nh og) (ix2 l e) : EReal)
      = normed ((chunkH q k v x3 x4 1 5).hidden (stateF M C n) l) e * nh (ix2 0 e) * og (ix2 l e) := by
  pointwise [k0_pay6, k0_pay8, k0_pay9, k0_pay28, k0_pay29, k0_pay30, k0_pay31, k0_pay32, k0_pay33, k0_pay34, k0_pay35]
  simp only [select_causal, normed, Chunk.hidden, Chunk.num, Chunk.den, Chunk.scale, Chunk.score, Chunk.inter, Chunk.rowMax,
    Chunk.logD, chunkH, stateF]

/-- The second head's new matrix memory. -/
theorem mem1 (d : Fin 128) (e : Fin 256) :
    ((k0_pay41 (F := Ideal) k v (k0_pay27 (k0_pay5 x3 x4)) (k0_pay28 (k0_pay7 x3 x4)) M (k0_pay29 C)) (ix3 0 d e) : EReal)
      = ((chunkH q k v x3 x4 1 5).next (stateF M C n)).C d e := by
  pointwise [k0_pay27, k0_pay28, k0_pay29, k0_pay36, k0_pay37, k0_pay38, k0_pay39, k0_pay40, k0_pay41]
  simp only [Chunk.next, Chunk.decay, Chunk.weight, Chunk.newMax, Chunk.logW, chunkH, stateF]

/-- The second head's new normalizer. -/
theorem nrm1 (d : Fin 128) :
    ((k0_pay42 (F := Ideal) k (k0_pay27 (k0_pay5 x3 x4)) (k0_pay28 (k0_pay7 x3 x4)) M n) (ix2 0 d) : EReal)
      = ((chunkH q k v x3 x4 1 5).next (stateF M C n)).n d := by
  pointwise [k0_pay27, k0_pay28, k0_pay36, k0_pay37, k0_pay38, k0_pay39, k0_pay40, k0_pay42]
  simp only [Chunk.next, Chunk.decay, Chunk.weight, Chunk.newMax, Chunk.logW, chunkH, stateF]

/-- The second head's new stabilizer. -/
theorem stb1 (d : Fin 128) :
    ((k0_pay43 (F := Ideal) (k0_pay27 (k0_pay5 x3 x4)) (k0_pay28 (k0_pay7 x3 x4)) M) (ix2 0 d) : EReal)
      = ((chunkH q k v x3 x4 1 5).next (stateF M C n)).M := by
  pointwise [k0_pay27, k0_pay28, k0_pay36, k0_pay37, k0_pay38, k0_pay43]
  simp only [Chunk.next, Chunk.decay, Chunk.weight, Chunk.newMax, Chunk.logW, chunkH, stateF]

/-- The third head's output. -/
theorem out2 (l : Fin 128) (e : Fin 256) :
    ((k0_pay54 (F := Ideal) (k0_pay49 k0_pay6 (k0_pay7 x3 x4) (k0_pay8 x3 x4) (k0_pay9 x3 x4) M) (k0_pay52 k0_pay6 (k0_pay7 x3 x4) (k0_pay8 x3 x4) (k0_pay9 x3 x4) q k v M C) (k0_pay53 k0_pay6 (k0_pay7 x3 x4) (k0_pay8 x3 x4) (k0_pay9 x3 x4) q k M n) nh og) (ix2 l e) : EReal)
      = normed ((chunkH q k v x3 x4 2 6).hidden (stateF M C n) l) e * nh (ix2 0 e) * og (ix2 l e) := by
  pointwise [k0_pay6, k0_pay8, k0_pay9, k0_pay45, k0_pay46, k0_pay47, k0_pay48, k0_pay49, k0_pay50, k0_pay51, k0_pay52, k0_pay53, k0_pay54]
  simp only [select_causal, normed, Chunk.hidden, Chunk.num, Chunk.den, Chunk.scale, Chunk.score, Chunk.inter, Chunk.rowMax,
    Chunk.logD, chunkH, stateF]

/-- The third head's new matrix memory. -/
theorem mem2 (d : Fin 128) (e : Fin 256) :
    ((k0_pay62 (F := Ideal) v (k0_pay60 (k0_pay44 (k0_pay5 x3 x4)) (k0_pay45 (k0_pay7 x3 x4)) M (k0_pay46 C)) (k0_pay61 k (k0_pay44 (k0_pay5 x3 x4)) (k0_pay45 (k0_pay7 x3 x4)) M)) (ix3 0 d e) : EReal)
      = ((chunkH q k v x3 x4 2 6).next (stateF M C n)).C d e := by
  pointwise [k0_pay44, k0_pay45, k0_pay46, k0_pay55, k0_pay56, k0_pay57, k0_pay58, k0_pay59, k0_pay60, k0_pay61, k0_pay62]
  simp only [Chunk.next, Chunk.decay, Chunk.weight, Chunk.newMax, Chunk.logW, chunkH, stateF]

/-- The third head's new normalizer. -/
theorem nrm2 (d : Fin 128) :
    ((k0_pay63 (F := Ideal) n (k0_pay58 k (k0_pay44 (k0_pay5 x3 x4)) (k0_pay45 (k0_pay7 x3 x4)) M) (k0_pay59 (k0_pay44 (k0_pay5 x3 x4)) (k0_pay45 (k0_pay7 x3 x4)) M)) (ix2 0 d) : EReal)
      = ((chunkH q k v x3 x4 2 6).next (stateF M C n)).n d := by
  pointwise [k0_pay44, k0_pay45, k0_pay55, k0_pay56, k0_pay57, k0_pay58, k0_pay59, k0_pay63]
  simp only [Chunk.next, Chunk.decay, Chunk.weight, Chunk.newMax, Chunk.logW, chunkH, stateF]

/-- The third head's new stabilizer. -/
theorem stb2 (d : Fin 128) :
    ((k0_pay64 (F := Ideal) (k0_pay57 (k0_pay44 (k0_pay5 x3 x4)) (k0_pay45 (k0_pay7 x3 x4)) M)) (ix2 0 d) : EReal)
      = ((chunkH q k v x3 x4 2 6).next (stateF M C n)).M := by
  pointwise [k0_pay44, k0_pay45, k0_pay55, k0_pay56, k0_pay57, k0_pay64]
  simp only [Chunk.next, Chunk.decay, Chunk.weight, Chunk.newMax, Chunk.logW, chunkH, stateF]

/-- The fourth head's output. -/
theorem out3 (l : Fin 128) (e : Fin 256) :
    ((k0_pay70 (F := Ideal) (k0_pay69 k0_pay6 q k v (k0_pay66 (k0_pay7 x3 x4)) M (k0_pay67 C) n (k0_pay68 (k0_pay7 x3 x4) (k0_pay8 x3 x4) (k0_pay9 x3 x4)) (FloatOps.ofBits .f32 0xFF800000#32)) nh og) (ix2 l e) : EReal)
      = normed ((chunkH q k v x3 x4 3 7).hidden (stateF M C n) l) e * nh (ix2 0 e) * og (ix2 l e) := by
  pointwise [k0_pay6, k0_pay8, k0_pay9, k0_pay66, k0_pay67, k0_pay68, k0_pay69, k0_pay70]
  simp only [select_causal, normed, Chunk.hidden, Chunk.num, Chunk.den, Chunk.scale, Chunk.score, Chunk.inter, Chunk.rowMax,
    Chunk.logD, chunkH, stateF]

/-- The fourth head's new matrix memory. -/
theorem mem3 (d : Fin 128) (e : Fin 256) :
    ((k0_pay76 (F := Ideal) k v (k0_pay65 (k0_pay5 x3 x4)) (k0_pay66 (k0_pay7 x3 x4)) M (k0_pay67 C)) (ix3 0 d e) : EReal)
      = ((chunkH q k v x3 x4 3 7).next (stateF M C n)).C d e := by
  pointwise [k0_pay65, k0_pay66, k0_pay67, k0_pay71, k0_pay72, k0_pay73, k0_pay74, k0_pay75, k0_pay76]
  simp only [Chunk.next, Chunk.decay, Chunk.weight, Chunk.newMax, Chunk.logW, chunkH, stateF]

/-- The fourth head's new normalizer. -/
theorem nrm3 (d : Fin 128) :
    ((k0_pay77 (F := Ideal) k (k0_pay65 (k0_pay5 x3 x4)) (k0_pay66 (k0_pay7 x3 x4)) M n) (ix2 0 d) : EReal)
      = ((chunkH q k v x3 x4 3 7).next (stateF M C n)).n d := by
  pointwise [k0_pay65, k0_pay66, k0_pay71, k0_pay72, k0_pay73, k0_pay74, k0_pay75, k0_pay77]
  simp only [Chunk.next, Chunk.decay, Chunk.weight, Chunk.newMax, Chunk.logW, chunkH, stateF]

/-- The fourth head's new stabilizer. -/
theorem stb3 (d : Fin 128) :
    ((k0_pay1 (F := Ideal) (k0_pay78 (k0_pay65 (k0_pay5 x3 x4)) (k0_pay66 (k0_pay7 x3 x4)) M)) (ix2 0 d) : EReal)
      = ((chunkH q k v x3 x4 3 7).next (stateF M C n)).M := by
  pointwise [k0_pay1, k0_pay65, k0_pay66, k0_pay71, k0_pay72, k0_pay73, k0_pay78]
  simp only [Chunk.next, Chunk.decay, Chunk.weight, Chunk.newMax, Chunk.logW, chunkH, stateF]

end Cert.Proof.Mlstm

end
-- ==== Proof.MlstmBlock.lean ====
/-
  The blocks one grid point is given, as entries of the call's arguments.
-/
module

public import proofs.«01_k».proof.Defs
public import proofs.«01_k».proof.Proof.MlstmHead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Mlstm

open Cert.MlstmKernelIdeal Cert.MlstmKernelIdeal.Gen

variable (m : (ℓ : Loc nD τ sig) → Buf (Elt Ideal) ℓ)

/-- The call's arguments in memory. -/
def args (c : Dev nD) : Args :=
  ⟨fun r j => (show FVec Ideal S16384x2048 .bf16 from m ((c : Thread nD τ).loc main_arg0)) (ix2 r j),
    fun r g => (show FVec Ideal S16384x128 .f32 from m ((c : Thread nD τ).loc main_arg1)) (ix2 r g),
    fun g => (show FVec Ideal S8 .f32 from m ((c : Thread nD τ).loc main_arg2)) (ix1 g),
    fun j => (show FVec Ideal S1024 .f32 from m ((c : Thread nD τ).loc main_arg4)) (ix1 j),
    fun r j => (show FVec Ideal S16384x1024 .f32 from m ((c : Thread nD τ).loc main_arg3)) (ix2 r j)⟩

/-- Where each window's block lies at each grid point. -/
theorem idx : ∀ t : Fin cfg0.N, win0_0.index t = ![t.val, 0] ∧ win0_1.index t = ![t.val, 1] ∧ win0_2.index t = ![t.val, 1]
    ∧ win0_3.index t = ![t.val, 0] ∧ win0_4.index t = ![0, 0] ∧ win0_5.index t = ![t.val, 0] ∧ win0_6.index t = ![0, 0]
    ∧ win0_7.index t = ![t.val, 0] :=
  (by decide +kernel : ∀ t : Fin grid0.N, _)

/-- A grid point as a chunk's number. -/
def at_ (t : Fin cfg0.N) : Fin 128 := ⟨t.val, lt_of_lt_of_eq t.isLt N_0⟩

/-- The gate biases as the kernel is given them: eight, padded. -/
def biasRow (B : FVec Ideal S8 .f32) : FVec Ideal S1x128 .f32 :=
  shapeCast S1x128 (pad S128 ![0] ![120] ![0] B (sitofp .f32 (constantI S_ 32 0#32)) pads_S8_S128_01200 h_S_)
    shapeCasts_S128_S1x128

/-- The host's operations leave that row in the kernel's operand. -/
theorem bias_eq (c : Dev nD) : V m c main_v1 = biasRow (m ((c : Thread nD τ).loc main_arg2)) := by
  show StableHlo.after [hostOps0, hostOps0_1, hostOps0_2].flatten (fun b => m (c, b)) (Proc.tc.devRef main_v1) = _
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results
  rfl

/-- The gain as the kernel is given it: a row. -/
theorem gain_eq (c : Dev nD) : V m c main_v2
    = shapeCast S1x1024 (show FVec Ideal S1024 .f32 from m ((c : Thread nD τ).loc main_arg4)) shapeCasts_S1024_S1x1024 := by
  show StableHlo.after [hostOps0, hostOps0_1, hostOps0_2].flatten (fun b => m (c, b)) (Proc.tc.devRef main_v2) = _
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results
  rfl

/-- The padded biases at a column a gate has. -/
theorem biasRow_apply (B : FVec Ideal S8 .f32) (j : Fin 128) (g : Fin 8) (h : j.val = g.val) :
    biasRow B (ix2 0 j) = B (ix1 g) := by
  have z : j.val < 8 := by omega
  pointwise [biasRow]
  rw [dif_pos z]
  congr 1
  blk_ext

variable (c : Dev nD) (t : Fin cfg0.N)

/-- The query block. -/
theorem q_at (l : Fin 128) (j : Fin 512) :
    (show FVec Ideal S128x512 .bf16 from iblk m c 0 t) (ix2 l j) = (args m c).qkv (row (at_ t) l) ⟨j.val, by omega⟩ := by
  unfold args row at_
  blk_ext [iblk, V, idx t]

/-- The key block. -/
theorem k_at (l : Fin 128) (j : Fin 512) :
    (show FVec Ideal S128x512 .bf16 from iblk m c 1 t) (ix2 l j) = (args m c).qkv (row (at_ t) l) ⟨512 + j.val, by omega⟩ := by
  unfold args row at_
  blk_ext [iblk, V, idx t]

/-- The value block. -/
theorem v_at (l : Fin 128) (j : Fin 1024) :
    (show FVec Ideal S128x1024 .bf16 from iblk m c 2 t) (ix2 l j) = (args m c).qkv (row (at_ t) l) ⟨1024 + j.val, by omega⟩ := by
  unfold args row at_
  blk_ext [iblk, V, idx t]

/-- The block of gate logits. -/
theorem pre_at (l g : Fin 128) :
    (show FVec Ideal S128x128 .f32 from iblk m c 3 t) (ix2 l g) = (args m c).pre (row (at_ t) l) g := by
  unfold args row at_
  blk_ext [iblk, V, idx t]

/-- The block of biases. -/
theorem bias_at (j : Fin 128) (g : Fin 8) (h : j.val = g.val) :
    (show FVec Ideal S1x128 .f32 from iblk m c 4 t) (ix2 0 j) = (args m c).bias g := by
  refine Eq.trans ?_ (biasRow_apply (m ((c : Thread nD τ).loc main_arg2)) j g h)
  rw [← bias_eq]
  blk_ext [iblk, idx t]

/-- The block of output gates. -/
theorem out_at (l : Fin 128) (j : Fin 1024) :
    (show FVec Ideal S128x1024 .f32 from iblk m c 5 t) (ix2 l j) = (args m c).out (row (at_ t) l) j := by
  unfold args row at_
  blk_ext [iblk, V, idx t]

/-- The block of gains. -/
theorem gain_at (j : Fin 1024) :
    (show FVec Ideal S1x1024 .f32 from iblk m c 6 t) (ix2 0 j) = (args m c).gain j := by
  have e : (show FVec Ideal S1x1024 .f32 from iblk m c 6 t) (ix2 0 j) = (show FVec Ideal S1x1024 .f32 from V m c main_v2) (ix2 0 j) := by
    blk_ext [iblk, idx t]
  rw [e, gain_eq]
  unfold args
  pointwise
  blk_ext

/-- A capped gate. -/
theorem ig_at (s j : Fin 128) (g : Fin 8) (h : j.val = g.val) :
    (k0_pay5 (F := Ideal) (iblk m c 3 t) (iblk m c 4 t) : FVec Ideal S128x128 .f32) (ix2 s j) = (args m c).gate (row (at_ t) s) g := by
  have e : j = ⟨g.val, by omega⟩ := Fin.ext h
  refine (gate_apply _ _ s j).trans ?_
  rw [show (iblk m c 3 t) (ix2 s j) = _ from pre_at m c t s j, show (iblk m c 4 t) (ix2 0 j) = _ from bias_at m c t j g h, e]
  rfl

/-- A running sum of log forget gates. -/
theorem b_at (s j : Fin 128) (g : Fin 8) (h : j.val = g.val) :
    (k0_pay7 (F := Ideal) (iblk m c 3 t) (iblk m c 4 t) : FVec Ideal S128x128 .f32) (ix2 s j)
      = runningSum (fun s => logSigmoid ((args m c).gate (row (at_ t) s) g)) s := by
  have e : j = ⟨g.val, by omega⟩ := Fin.ext h
  refine (sums_apply _ _ s j).trans ?_
  congr 1
  funext s
  rw [show (iblk m c 3 t) (ix2 s j) = _ from pre_at m c t s j, show (iblk m c 4 t) (ix2 0 j) = _ from bias_at m c t j g h, e]
  rfl

end Cert.Proof.Mlstm

end
-- ==== Proof.MlstmStores.lean ====
/-
  What a list of stores leaves at an index that one of the first of them covers, and the four rows the kernel's heads store.
-/
module

public import proofs.«01_k».proof.Defs
public import proofs.«01_k».proof.Proof.MlstmBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.Mlstm

section
variable {s : Shape} {e : EltTy} {Val : EltTy → Type} [∀ e, Nonempty (Val e)]

/-- Older stores do not matter where a newer one covers the index. -/
theorem canon_append (y : s.Idx) (L' : List (View.Piece Val s e)) : ∀ L : List (View.Piece Val s e), (∃ p ∈ L, y ∈ p.1.set) →
    View.canon (L ++ L') y = View.canon L y
  | [], h => by obtain ⟨_, hm, _⟩ := h; exact absurd hm List.not_mem_nil
  | p :: L, h => by
    rw [List.cons_append]
    by_cases hy : y ∈ p.1.set
    · obtain ⟨r, w⟩ := p
      obtain ⟨x, rfl⟩ : ∃ x, r.emb x = y := r.exists_idx_of_mem hy
      rw [View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [View.canon_cons_of_not_mem p _ hy, View.canon_cons_of_not_mem p _ hy]
      exact canon_append y L' L hL

/-- Four newest stores, over a fifth. -/
theorem canon_four (p3 p2 p1 p0 z : View.Piece Val s e) (y : s.Idx) (h : ∃ p ∈ [p3, p2, p1, p0], y ∈ p.1.set) :
    View.canon [p3, p2, p1, p0, z] y = View.canon [p3, p2, p1, p0] y :=
  canon_append y [z] [p3, p2, p1, p0] h
end

section
open Cert.MlstmKernelIdeal Cert.MlstmKernelIdeal.Gen
variable {e : EltTy} {Val : EltTy → Type}

/-- An index lies in its own row. -/
theorem row_mem {o : ℕ} (i : ∀ a, (![o, 0] : Fin 2 → ℕ) a + (![1, 128] : Fin 2 → ℕ) a ≤ S8x128.size a) (y : S8x128.Idx) (hy : (y 0).val = o) :
    y ∈ (Rect.unit (s := S8x128) ![o, 0] ![1, 128] i).set := by
  have h1 : (y 1).val < 128 := (y 1).isLt
  refine (Rect.mem_set_unit (s := S8x128)).mpr (Fin.forall_fin_two.mpr ⟨⟨?_, ?_⟩, ?_, ?_⟩)
  · exact hy.ge
  · show (y 0).val < o + 1
    omega
  · exact Nat.zero_le _
  · show (y 1).val < 0 + 128
    omega

/-- The same for a head of the matrix memory. -/
theorem head_mem {o : ℕ} (i : ∀ a, (![o, 0, 0] : Fin 3 → ℕ) a + (![1, 128, 256] : Fin 3 → ℕ) a ≤ S4x128x256.size a) (y : S4x128x256.Idx)
    (hy : (y 0).val = o) : y ∈ (Rect.unit (s := S4x128x256) ![o, 0, 0] ![1, 128, 256] i).set := by
  have h1 : (y 1).val < 128 := (y 1).isLt
  have h2 : (y 2).val < 256 := (y 2).isLt
  refine (Rect.mem_set_unit (s := S4x128x256)).mpr fun a => ?_
  match a with
  | 0 => exact ⟨hy.ge, show (y 0).val < o + 1 by omega⟩
  | 1 => exact ⟨Nat.zero_le _, show (y 1).val < 0 + 128 by omega⟩
  | 2 => exact ⟨Nat.zero_le _, show (y 2).val < 0 + 256 by omega⟩

/-- A row of the first four of eight is one of the four rows stored. -/
theorem cover_rows {i3 i2 i1 i0} (w3 : (Rect.unit (s := S8x128) ![3, 0] ![1, 128] i3).shape.Idx → Val e)
    (w2 : (Rect.unit (s := S8x128) ![2, 0] ![1, 128] i2).shape.Idx → Val e)
    (w1 : (Rect.unit (s := S8x128) ![1, 0] ![1, 128] i1).shape.Idx → Val e)
    (w0 : (Rect.unit (s := S8x128) ![0, 0] ![1, 128] i0).shape.Idx → Val e) (h : Fin 4) (y : S8x128.Idx) (hy : (y 0).val = h.val) :
    ∃ p ∈ ([⟨Rect.unit ![3, 0] ![1, 128] i3, w3⟩, ⟨Rect.unit ![2, 0] ![1, 128] i2, w2⟩, ⟨Rect.unit ![1, 0] ![1, 128] i1, w1⟩,
      ⟨Rect.unit ![0, 0] ![1, 128] i0, w0⟩] : List (View.Piece Val S8x128 e)), y ∈ p.1.set := by
  match h with
  | 3 => exact ⟨_, .head _, row_mem i3 y hy⟩
  | 2 => exact ⟨_, .tail _ (.head _), row_mem i2 y hy⟩
  | 1 => exact ⟨_, .tail _ (.tail _ (.head _)), row_mem i1 y hy⟩
  | 0 => exact ⟨_, .tail _ (.tail _ (.tail _ (.head _))), row_mem i0 y hy⟩

/-- A head of the matrix memory is one of the four stored. -/
theorem cover_heads {i3 i2 i1 i0} (w3 : (Rect.unit (s := S4x128x256) ![3, 0, 0] ![1, 128, 256] i3).shape.Idx → Val e)
    (w2 : (Rect.unit (s := S4x128x256) ![2, 0, 0] ![1, 128, 256] i2).shape.Idx → Val e)
    (w1 : (Rect.unit (s := S4x128x256) ![1, 0, 0] ![1, 128, 256] i1).shape.Idx → Val e)
    (w0 : (Rect.unit (s := S4x128x256) ![0, 0, 0] ![1, 128, 256] i0).shape.Idx → Val e) (h : Fin 4) (y : S4x128x256.Idx)
    (hy : (y 0).val = h.val) :
    ∃ p ∈ ([⟨Rect.unit ![3, 0, 0] ![1, 128, 256] i3, w3⟩, ⟨Rect.unit ![2, 0, 0] ![1, 128, 256] i2, w2⟩,
      ⟨Rect.unit ![1, 0, 0] ![1, 128, 256] i1, w1⟩, ⟨Rect.unit ![0, 0, 0] ![1, 128, 256] i0, w0⟩] :
      List (View.Piece Val S4x128x256 e)), y ∈ p.1.set := by
  match h with
  | 3 => exact ⟨_, .head _, head_mem i3 y hy⟩
  | 2 => exact ⟨_, .tail _ (.head _), head_mem i2 y hy⟩
  | 1 => exact ⟨_, .tail _ (.tail _ (.head _)), head_mem i1 y hy⟩
  | 0 => exact ⟨_, .tail _ (.tail _ (.tail _ (.head _))), head_mem i0 y hy⟩

variable (m : (ℓ : Loc nD τ sig) → Buf (Elt Ideal) ℓ)

/-- The scratches hold the heads' states. -/
structure Holds (C : FVec Ideal S4x128x256 .f32) (n M : FVec Ideal S8x128 .f32) (S : Fin 4 → State) : Prop where
  mem : ∀ h d e, (C (ix3 h d e) : EReal) = (S h).C d e
  nrm : ∀ (h : Fin 4) d, (n (ix2 ⟨h.val, by omega⟩ d) : EReal) = (S h).n d
  stb : ∀ (h : Fin 4) d, (M (ix2 ⟨h.val, by omega⟩ d) : EReal) = (S h).M

/-- A head's chunk, its queries, keys and values being loads from the point's blocks. -/
theorem chunk_at (c : Dev nD) (t : Fin cfg0.N) (h : Fin 4) {g f : Fin 128} (hg : g.val = h.val) (hf : f.val = 4 + h.val)
    {q k : FVec Ideal S128x128 .bf16} {v : FVec Ideal S128x256 .bf16}
    (hq : ∀ l d, q (ix2 l d) = (show FVec Ideal S128x512 .bf16 from iblk m c 0 t) (ix2 l ⟨h.val * 128 + d.val, by omega⟩))
    (hk : ∀ l d, k (ix2 l d) = (show FVec Ideal S128x512 .bf16 from iblk m c 1 t) (ix2 l ⟨h.val * 128 + d.val, by omega⟩))
    (hv : ∀ l e, v (ix2 l e) = (show FVec Ideal S128x1024 .bf16 from iblk m c 2 t) (ix2 l ⟨h.val * 256 + e.val, by omega⟩)) :
    chunkH q k v (iblk m c 3 t) (iblk m c 4 t) g f = (args m c).chunk (at_ t) h :=
  chunkH_eq q k v _ _ _ (fun l d => (hq l d).trans (q_at m c t l _)) (fun l d => (hk l d).trans (k_at m c t l _))
    (fun l e => (hv l e).trans (v_at m c t l _)) (fun s => ig_at m c t s g ⟨h.val, by omega⟩ hg)
    (fun s => b_at m c t s f ⟨4 + h.val, by omega⟩ hf)

/-- A head's state, its parts being loads from the scratches. -/
theorem state_at {oC : FVec Ideal S4x128x256 .f32} {on oM : FVec Ideal S8x128 .f32} {S : Fin 4 → State} (hS : Holds oC on oM S) (h : Fin 4)
    {M : FVec Ideal S1x1 .f32} {C : FVec Ideal S1x128x256 .f32} {n : FVec Ideal S1x128 .f32}
    (hM : M (ix2 0 0) = oM (ix2 ⟨h.val, by omega⟩ 0)) (hC : ∀ d e, C (ix3 0 d e) = oC (ix3 h d e))
    (hn : ∀ d, n (ix2 0 d) = on (ix2 ⟨h.val, by omega⟩ d)) : stateF M C n = S h :=
  stateF_eq M C n _ (hM.trans (hS.stb h 0)) (fun d e => (hC d e).trans (hS.mem h d e)) (fun d => (hn d).trans (hS.nrm h d))

/-- The queries of a head's chunk, for a store that does not load them. -/
def qOf (c : Dev nD) (t : Fin cfg0.N) (h : Fin 4) : FVec Ideal S128x128 .bf16 :=
  fun i => (show FVec Ideal S128x512 .bf16 from iblk m c 0 t) (ix2 (i 0) ⟨h.val * 128 + (i 1).val, by have := (i 1).isLt; change _ < 128 at this; omega⟩)

/-- The keys of a head's chunk, for a store that does not load them. -/
def kOf (c : Dev nD) (t : Fin cfg0.N) (h : Fin 4) : FVec Ideal S128x128 .bf16 :=
  fun i => (show FVec Ideal S128x512 .bf16 from iblk m c 1 t) (ix2 (i 0) ⟨h.val * 128 + (i 1).val, by have := (i 1).isLt; change _ < 128 at this; omega⟩)

/-- The values of a head's chunk, for a store that does not load them. -/
def vOf (c : Dev nD) (t : Fin cfg0.N) (h : Fin 4) : FVec Ideal S128x256 .bf16 :=
  fun i => (show FVec Ideal S128x1024 .bf16 from iblk m c 2 t) (ix2 (i 0) ⟨h.val * 256 + (i 1).val, by have := (i 1).isLt; change _ < 256 at this; omega⟩)

/-- A head's matrix memory, for a store that does not load it. -/
def memOf (oC : FVec Ideal S4x128x256 .f32) (h : Fin 4) : FVec Ideal S1x128x256 .f32 := fun i => oC (ix3 h (i 1) (i 2))

/-- A head's normalizer, for a store that does not load it. -/
def nrmOf (on : FVec Ideal S8x128 .f32) (h : Fin 4) : FVec Ideal S1x128 .f32 := fun i => on (ix2 ⟨h.val, by omega⟩ (i 1))

/-- Equal chunks and states leave equal normalizers. -/
theorem nrm_congr {K K' : Chunk} {S S' : State} {d : Fin 128} (hK : K = K') (hS : S = S') : (K.next S).n d = (K'.next S').n d := by
  rw [hK, hS]

/-- Equal chunks and states leave equal memories. -/
theorem mem_congr {K K' : Chunk} {S S' : State} {d : Fin 128} {e : Fin 256} (hK : K = K') (hS : S = S') :
    (K.next S).C d e = (K'.next S').C d e := by
  rw [hK, hS]

/-- Equal chunks and states leave equal stabilizers. -/
theorem stb_congr {K K' : Chunk} {S S' : State} (hK : K = K') (hS : S = S') : (K.next S).M = (K'.next S').M := by
  rw [hK, hS]
end

end Cert.Proof.Mlstm

end
-- ==== Proof.MlstmFirst.lean ====
/-
  What the first point leaves: the output block, and the three scratches, which it zeroes before it uses them.
-/
module
public import proofs.«01_k».proof.Defs
public import proofs.«01_k».proof.Proof.MlstmHeads
public import proofs.«01_k».proof.Proof.MlstmBlock
public import proofs.«01_k».proof.Proof.MlstmStores
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Proof.Mlstm
open Cert.MlstmKernelIdeal Cert.MlstmKernelIdeal.Gen
variable (m : (ℓ : Loc nD τ sig) → Buf (Elt Ideal) ℓ)

/-- The three scratches, zeroed, hold the state the recurrence starts from. -/
theorem zero_holds : Holds (k0_pay2 (F := Ideal)) (k0_pay3 (F := Ideal)) (k0_pay4 (F := Ideal)) (fun _ => State.zero) := by
  refine ⟨fun h d e => ?_, fun h d => ?_, fun h d => ?_⟩
  all_goals
    simp only [State.zero]
    pointwise [k0_pay2, k0_pay3, k0_pay4]

/-- What the first point's stores leave in the output block. -/
theorem out_first (c : Dev nD) (t : Fin cfg0.N) (hA : t.val % 128 = 0)
    (y : S128x1024.Idx) (h : Fin 4) (l : Fin 128) (e : Fin 256) (j : Fin 1024) (hl : (y 0).val = l.val) (hj : (y 1).val = j.val)
    (he : j.val = h.val * 256 + e.val) : ((outsAt0 m c t.val t.isLt).1 y : EReal)
      = normed (((args m c).chunk (at_ t) h).hidden State.zero l) e * (args m c).gain j * (args m c).out (row (at_ t) l) j := by
  rw [outsAt0_A m c t hA]
  frame_open
  simp (disch := decide) only [↓ View.readCov_skip, ↓ View.readCov_cons_toLoadRect, ↓ View.readCov_fill]
  frame_out
  canon_tiles x z
  · obtain rfl : h = 3 := by omega
    obtain rfl : x = ix2 l e := by blk_ext
    rw [out3]
    refine value_congr (chunk_at m c t 3 rfl rfl ?_ ?_ ?_) (state_at zero_holds 3 ?_ ?_ ?_) (Eq.trans ?_ (gain_at m c t j))
      (Eq.trans ?_ (out_at m c t l j))
    all_goals (intros; pointwise [k0_pay2, k0_pay3, k0_pay4])
    all_goals blk_ext
  · obtain rfl : h = 2 := by omega
    obtain rfl : x = ix2 l e := by blk_ext
    rw [out2]
    refine value_congr (chunk_at m c t 2 rfl rfl ?_ ?_ ?_) (state_at zero_holds 2 ?_ ?_ ?_) (Eq.trans ?_ (gain_at m c t j))
      (Eq.trans ?_ (out_at m c t l j))
    all_goals (intros; pointwise [k0_pay2, k0_pay3, k0_pay4])
    all_goals blk_ext
  · obtain rfl : h = 1 := by omega
    obtain rfl : x = ix2 l e := by blk_ext
    rw [out1]
    refine value_congr (chunk_at m c t 1 rfl rfl ?_ ?_ ?_) (state_at zero_holds 1 ?_ ?_ ?_) (Eq.trans ?_ (gain_at m c t j))
      (Eq.trans ?_ (out_at m c t l j))
    all_goals (intros; pointwise [k0_pay2, k0_pay3, k0_pay4])
    all_goals blk_ext
  · obtain rfl : h = 0 := by omega
    obtain rfl : x = ix2 l e := by blk_ext
    rw [out0]
    refine value_congr (chunk_at m c t 0 rfl rfl ?_ ?_ ?_) (state_at zero_holds 0 ?_ ?_ ?_) (Eq.trans ?_ (gain_at m c t j))
      (Eq.trans ?_ (out_at m c t l j))
    all_goals (intros; pointwise [k0_pay2, k0_pay3, k0_pay4])
    all_goals blk_ext

/-- What they leave in the matrix memory. -/
theorem mem_first (c : Dev nD) (t : Fin cfg0.N) (hA : t.val % 128 = 0)
    (y : S4x128x256.Idx) (h : Fin 4) (d : Fin 128) (e : Fin 256) (hh : (y 0).val = h.val) (hd : (y 1).val = d.val)
    (he : (y 2).val = e.val) :
    ((outsAt0 m c t.val t.isLt).2.1 y : EReal) = (((args m c).chunk (at_ t) h).next State.zero).C d e := by
  rw [outsAt0_A m c t hA]
  frame_open
  simp (disch := decide) only [↓ View.readCov_skip, ↓ View.readCov_cons_toLoadRect, ↓ View.readCov_fill]
  frame_out
  refine (canon_four _ _ _ _ _ _ (cover_heads _ _ _ _ h y hh)).trans ?_
  canon_tiles x z using cover_heads _ _ _ _ h y hh
  · obtain rfl : h = 3 := by omega
    obtain rfl : x = ix3 0 d e := by blk_ext
    rw [mem3 (qOf m c t 3) _ _ _ _ (nrmOf k0_pay3 3)]
    refine mem_congr (chunk_at m c t 3 rfl rfl ?_ ?_ ?_) (state_at zero_holds 3 ?_ ?_ ?_)
    all_goals (intros; pointwise [qOf, nrmOf, k0_pay2, k0_pay3, k0_pay4])
    all_goals blk_ext
  · obtain rfl : h = 2 := by omega
    obtain rfl : x = ix3 0 d e := by blk_ext
    rw [mem2 (qOf m c t 2) _ _ _ _ (nrmOf k0_pay3 2)]
    refine mem_congr (chunk_at m c t 2 rfl rfl ?_ ?_ ?_) (state_at zero_holds 2 ?_ ?_ ?_)
    all_goals (intros; pointwise [qOf, nrmOf, k0_pay2, k0_pay3, k0_pay4])
    all_goals blk_ext
  · obtain rfl : h = 1 := by omega
    obtain rfl : x = ix3 0 d e := by blk_ext
    rw [mem1 (qOf m c t 1) _ _ _ _ (nrmOf k0_pay3 1)]
    refine mem_congr (chunk_at m c t 1 rfl rfl ?_ ?_ ?_) (state_at zero_holds 1 ?_ ?_ ?_)
    all_goals (intros; pointwise [qOf, nrmOf, k0_pay2, k0_pay3, k0_pay4])
    all_goals blk_ext
  · obtain rfl : h = 0 := by omega
    obtain rfl : x = ix3 0 d e := by blk_ext
    rw [mem0 (qOf m c t 0) _ _ _ _ (nrmOf k0_pay3 0)]
    refine mem_congr (chunk_at m c t 0 rfl rfl ?_ ?_ ?_) (state_at zero_holds 0 ?_ ?_ ?_)
    all_goals (intros; pointwise [qOf, nrmOf, k0_pay2, k0_pay3, k0_pay4])
    all_goals blk_ext

/-- What they leave in the normalizer. -/
theorem nrm_first (c : Dev nD) (t : Fin cfg0.N) (hA : t.val % 128 = 0)
    (y : S8x128.Idx) (h : Fin 4) (d : Fin 128) (hh : (y 0).val = h.val) (hd : (y 1).val = d.val) :
    ((outsAt0 m c t.val t.isLt).2.2.1 y : EReal) = (((args m c).chunk (at_ t) h).next State.zero).n d := by
  rw [outsAt0_A m c t hA]
  frame_open
  simp (disch := decide) only [↓ View.readCov_skip, ↓ View.readCov_cons_toLoadRect, ↓ View.readCov_fill]
  frame_out
  refine (canon_four _ _ _ _ _ _ (cover_rows _ _ _ _ h y hh)).trans ?_
  canon_tiles x z using cover_rows _ _ _ _ h y hh
  · obtain rfl : h = 3 := by omega
    obtain rfl : x = ix2 0 d := by blk_ext
    rw [nrm3 (qOf m c t 3) _ (vOf m c t 3) _ (memOf k0_pay2 3)]
    refine nrm_congr (chunk_at m c t 3 rfl rfl ?_ ?_ ?_) (state_at zero_holds 3 ?_ ?_ ?_)
    all_goals (intros; pointwise [qOf, vOf, memOf, k0_pay2, k0_pay3, k0_pay4])
    all_goals blk_ext
  · obtain rfl : h = 2 := by omega
    obtain rfl : x = ix2 0 d := by blk_ext
    rw [nrm2 (qOf m c t 2) _ (vOf m c t 2) _ (memOf k0_pay2 2)]
    refine nrm_congr (chunk_at m c t 2 rfl rfl ?_ ?_ ?_) (state_at zero_holds 2 ?_ ?_ ?_)
    all_goals (intros; pointwise [qOf, vOf, memOf, k0_pay2, k0_pay3, k0_pay4])
    all_goals blk_ext
  · obtain rfl : h = 1 := by omega
    obtain rfl : x = ix2 0 d := by blk_ext
    rw [nrm1 (qOf m c t 1) _ (vOf m c t 1) _ (memOf k0_pay2 1)]
    refine nrm_congr (chunk_at m c t 1 rfl rfl ?_ ?_ ?_) (state_at zero_holds 1 ?_ ?_ ?_)
    all_goals (intros; pointwise [qOf, vOf, memOf, k0_pay2, k0_pay3, k0_pay4])
    all_goals blk_ext
  · obtain rfl : h = 0 := by omega
    obtain rfl : x = ix2 0 d := by blk_ext
    rw [nrm0 (qOf m c t 0) _ (vOf m c t 0) _ (memOf k0_pay2 0)]
    refine nrm_congr (chunk_at m c t 0 rfl rfl ?_ ?_ ?_) (state_at zero_holds 0 ?_ ?_ ?_)
    all_goals (intros; pointwise [qOf, vOf, memOf, k0_pay2, k0_pay3, k0_pay4])
    all_goals blk_ext

/-- What they leave in the stabilizer. -/
theorem stb_first (c : Dev nD) (t : Fin cfg0.N) (hA : t.val % 128 = 0)
    (y : S8x128.Idx) (h : Fin 4) (d : Fin 128) (hh : (y 0).val = h.val) (hd : (y 1).val = d.val) :
    ((outsAt0 m c t.val t.isLt).2.2.2 y : EReal) = (((args m c).chunk (at_ t) h).next State.zero).M := by
  rw [outsAt0_A m c t hA]
  frame_open
  simp (disch := decide) only [↓ View.readCov_skip, ↓ View.readCov_cons_toLoadRect, ↓ View.readCov_fill]
  frame_out
  refine (canon_four _ _ _ _ _ _ (cover_rows _ _ _ _ h y hh)).trans ?_
  canon_tiles x z using cover_rows _ _ _ _ h y hh
  · obtain rfl : h = 3 := by omega
    obtain rfl : x = ix2 0 d := by blk_ext
    rw [stb3 (qOf m c t 3) (kOf m c t 3) (vOf m c t 3) _ (memOf k0_pay2 3) (nrmOf k0_pay3 3)]
    refine stb_congr (chunk_at m c t 3 rfl rfl ?_ ?_ ?_) (state_at zero_holds 3 ?_ ?_ ?_)
    all_goals (intros; pointwise [qOf, kOf, vOf, memOf, nrmOf, k0_pay2, k0_pay3, k0_pay4])
    all_goals blk_ext
  · obtain rfl : h = 2 := by omega
    obtain rfl : x = ix2 0 d := by blk_ext
    rw [stb2 (qOf m c t 2) (kOf m c t 2) (vOf m c t 2) _ (memOf k0_pay2 2) (nrmOf k0_pay3 2)]
    refine stb_congr (chunk_at m c t 2 rfl rfl ?_ ?_ ?_) (state_at zero_holds 2 ?_ ?_ ?_)
    all_goals (intros; pointwise [qOf, kOf, vOf, memOf, nrmOf, k0_pay2, k0_pay3, k0_pay4])
    all_goals blk_ext
  · obtain rfl : h = 1 := by omega
    obtain rfl : x = ix2 0 d := by blk_ext
    rw [stb1 (qOf m c t 1) (kOf m c t 1) (vOf m c t 1) _ (memOf k0_pay2 1) (nrmOf k0_pay3 1)]
    refine stb_congr (chunk_at m c t 1 rfl rfl ?_ ?_ ?_) (state_at zero_holds 1 ?_ ?_ ?_)
    all_goals (intros; pointwise [qOf, kOf, vOf, memOf, nrmOf, k0_pay2, k0_pay3, k0_pay4])
    all_goals blk_ext
  · obtain rfl : h = 0 := by omega
    obtain rfl : x = ix2 0 d := by blk_ext
    rw [stb0 (qOf m c t 0) (kOf m c t 0) (vOf m c t 0) _ (memOf k0_pay2 0) (nrmOf k0_pay3 0)]
    refine stb_congr (chunk_at m c t 0 rfl rfl ?_ ?_ ?_) (state_at zero_holds 0 ?_ ?_ ?_)
    all_goals (intros; pointwise [qOf, kOf, vOf, memOf, nrmOf, k0_pay2, k0_pay3, k0_pay4])
    all_goals blk_ext

end Cert.Proof.Mlstm

end
-- ==== Proof.MlstmLater.lean ====
/-
  What a point that continues a sequence leaves: the output block, and the three scratches, from the scratches before it.
-/
module
public import proofs.«01_k».proof.Defs
public import proofs.«01_k».proof.Proof.MlstmHeads
public import proofs.«01_k».proof.Proof.MlstmBlock
public import proofs.«01_k».proof.Proof.MlstmStores
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Proof.Mlstm
open Cert.MlstmKernelIdeal Cert.MlstmKernelIdeal.Gen
variable (m : (ℓ : Loc nD τ sig) → Buf (Elt Ideal) ℓ)

/-- What a later point's stores leave in the output block. -/
theorem out_next (c : Dev nD) (t : Fin cfg0.N) (hB : ¬ t.val % 128 = 0) (S : Fin 4 → State)
    (hS : ∀ p, Holds (outsAt0 m c (t.val - 1) p).2.1 (outsAt0 m c (t.val - 1) p).2.2.1 (outsAt0 m c (t.val - 1) p).2.2.2 S)
    (y : S128x1024.Idx) (h : Fin 4) (l : Fin 128) (e : Fin 256) (j : Fin 1024) (hl : (y 0).val = l.val) (hj : (y 1).val = j.val)
    (he : j.val = h.val * 256 + e.val) : ((outsAt0 m c t.val t.isLt).1 y : EReal)
      = normed (((args m c).chunk (at_ t) h).hidden (S h) l) e * (args m c).gain j * (args m c).out (row (at_ t) l) j := by
  rw [outsAt0_B m c t hB]
  frame_out
  have hS' := hS (by omega)
  revert hS'
  generalize (outsAt0 m c (↑t - 1) _) = o
  obtain ⟨o1, oC, on, oM⟩ := o
  intro hS'
  dsimp only at hS'
  dsimp only
  canon_tiles x z
  · obtain rfl : h = 3 := by omega
    obtain rfl : x = ix2 l e := by blk_ext
    rw [out3, read_unread_whole, read_unread_whole, read_unread_whole]
    refine value_congr (chunk_at m c t 3 rfl rfl ?_ ?_ ?_) (state_at hS' 3 ?_ ?_ ?_) (Eq.trans ?_ (gain_at m c t j))
      (Eq.trans ?_ (out_at m c t l j))
    all_goals (intros; pointwise)
    all_goals blk_ext
  · obtain rfl : h = 2 := by omega
    obtain rfl : x = ix2 l e := by blk_ext
    rw [out2, read_unread_whole, read_unread_whole, read_unread_whole]
    refine value_congr (chunk_at m c t 2 rfl rfl ?_ ?_ ?_) (state_at hS' 2 ?_ ?_ ?_) (Eq.trans ?_ (gain_at m c t j))
      (Eq.trans ?_ (out_at m c t l j))
    all_goals (intros; pointwise)
    all_goals blk_ext
  · obtain rfl : h = 1 := by omega
    obtain rfl : x = ix2 l e := by blk_ext
    rw [out1, read_unread_whole, read_unread_whole, read_unread_whole]
    refine value_congr (chunk_at m c t 1 rfl rfl ?_ ?_ ?_) (state_at hS' 1 ?_ ?_ ?_) (Eq.trans ?_ (gain_at m c t j))
      (Eq.trans ?_ (out_at m c t l j))
    all_goals (intros; pointwise)
    all_goals blk_ext
  · obtain rfl : h = 0 := by omega
    obtain rfl : x = ix2 l e := by blk_ext
    rw [out0, read_unread_whole, read_unread_whole, read_unread_whole]
    refine value_congr (chunk_at m c t 0 rfl rfl ?_ ?_ ?_) (state_at hS' 0 ?_ ?_ ?_) (Eq.trans ?_ (gain_at m c t j))
      (Eq.trans ?_ (out_at m c t l j))
    all_goals (intros; pointwise)
    all_goals blk_ext

/-- What they leave in the matrix memory. -/
theorem mem_next (c : Dev nD) (t : Fin cfg0.N) (hB : ¬ t.val % 128 = 0) (S : Fin 4 → State)
    (hS : ∀ p, Holds (outsAt0 m c (t.val - 1) p).2.1 (outsAt0 m c (t.val - 1) p).2.2.1 (outsAt0 m c (t.val - 1) p).2.2.2 S)
    (y : S4x128x256.Idx) (h : Fin 4) (d : Fin 128) (e : Fin 256) (hh : (y 0).val = h.val) (hd : (y 1).val = d.val)
    (he : (y 2).val = e.val) :
    ((outsAt0 m c t.val t.isLt).2.1 y : EReal) = (((args m c).chunk (at_ t) h).next (S h)).C d e := by
  rw [outsAt0_B m c t hB]
  frame_out
  have hS' := hS (by omega)
  revert hS'
  generalize (outsAt0 m c (↑t - 1) _) = o
  obtain ⟨o1, oC, on, oM⟩ := o
  intro hS'
  dsimp only at hS'
  dsimp only
  canon_tiles x z
  · obtain rfl : h = 3 := by omega
    obtain rfl : x = ix3 0 d e := by blk_ext
    rw [mem3 (qOf m c t 3) _ _ _ _ (nrmOf on 3), read_unread_whole, read_unread_whole]
    refine mem_congr (chunk_at m c t 3 rfl rfl ?_ ?_ ?_) (state_at hS' 3 ?_ ?_ ?_)
    all_goals (intros; pointwise [qOf, nrmOf])
    all_goals blk_ext
  · obtain rfl : h = 2 := by omega
    obtain rfl : x = ix3 0 d e := by blk_ext
    rw [mem2 (qOf m c t 2) _ _ _ _ (nrmOf on 2), read_unread_whole, read_unread_whole]
    refine mem_congr (chunk_at m c t 2 rfl rfl ?_ ?_ ?_) (state_at hS' 2 ?_ ?_ ?_)
    all_goals (intros; pointwise [qOf, nrmOf])
    all_goals blk_ext
  · obtain rfl : h = 1 := by omega
    obtain rfl : x = ix3 0 d e := by blk_ext
    rw [mem1 (qOf m c t 1) _ _ _ _ (nrmOf on 1), read_unread_whole, read_unread_whole]
    refine mem_congr (chunk_at m c t 1 rfl rfl ?_ ?_ ?_) (state_at hS' 1 ?_ ?_ ?_)
    all_goals (intros; pointwise [qOf, nrmOf])
    all_goals blk_ext
  · obtain rfl : h = 0 := by omega
    obtain rfl : x = ix3 0 d e := by blk_ext
    rw [mem0 (qOf m c t 0) _ _ _ _ (nrmOf on 0), read_unread_whole, read_unread_whole]
    refine mem_congr (chunk_at m c t 0 rfl rfl ?_ ?_ ?_) (state_at hS' 0 ?_ ?_ ?_)
    all_goals (intros; pointwise [qOf, nrmOf])
    all_goals blk_ext

/-- What they leave in the normalizer. -/
theorem nrm_next (c : Dev nD) (t : Fin cfg0.N) (hB : ¬ t.val % 128 = 0) (S : Fin 4 → State)
    (hS : ∀ p, Holds (outsAt0 m c (t.val - 1) p).2.1 (outsAt0 m c (t.val - 1) p).2.2.1 (outsAt0 m c (t.val - 1) p).2.2.2 S)
    (y : S8x128.Idx) (h : Fin 4) (d : Fin 128) (hh : (y 0).val = h.val) (hd : (y 1).val = d.val) :
    ((outsAt0 m c t.val t.isLt).2.2.1 y : EReal) = (((args m c).chunk (at_ t) h).next (S h)).n d := by
  rw [outsAt0_B m c t hB]
  frame_out
  have hS' := hS (by omega)
  revert hS'
  generalize (outsAt0 m c (↑t - 1) _) = o
  obtain ⟨o1, oC, on, oM⟩ := o
  intro hS'
  dsimp only at hS'
  dsimp only
  refine (View.read_writes_apply_eq_canon _ _ _ _ (cover_rows _ _ _ _ h y hh)).trans ?_
  canon_tiles x z using cover_rows _ _ _ _ h y hh
  · obtain rfl : h = 3 := by omega
    obtain rfl : x = ix2 0 d := by blk_ext
    rw [nrm3 (qOf m c t 3) _ (vOf m c t 3) _ (memOf oC 3), read_unread_whole, read_unread_whole]
    refine nrm_congr (chunk_at m c t 3 rfl rfl ?_ ?_ ?_) (state_at hS' 3 ?_ ?_ ?_)
    all_goals (intros; pointwise [qOf, vOf, memOf])
    all_goals blk_ext
  · obtain rfl : h = 2 := by omega
    obtain rfl : x = ix2 0 d := by blk_ext
    rw [nrm2 (qOf m c t 2) _ (vOf m c t 2) _ (memOf oC 2), read_unread_whole, read_unread_whole]
    refine nrm_congr (chunk_at m c t 2 rfl rfl ?_ ?_ ?_) (state_at hS' 2 ?_ ?_ ?_)
    all_goals (intros; pointwise [qOf, vOf, memOf])
    all_goals blk_ext
  · obtain rfl : h = 1 := by omega
    obtain rfl : x = ix2 0 d := by blk_ext
    rw [nrm1 (qOf m c t 1) _ (vOf m c t 1) _ (memOf oC 1), read_unread_whole, read_unread_whole]
    refine nrm_congr (chunk_at m c t 1 rfl rfl ?_ ?_ ?_) (state_at hS' 1 ?_ ?_ ?_)
    all_goals (intros; pointwise [qOf, vOf, memOf])
    all_goals blk_ext
  · obtain rfl : h = 0 := by omega
    obtain rfl : x = ix2 0 d := by blk_ext
    rw [nrm0 (qOf m c t 0) _ (vOf m c t 0) _ (memOf oC 0), read_unread_whole, read_unread_whole]
    refine nrm_congr (chunk_at m c t 0 rfl rfl ?_ ?_ ?_) (state_at hS' 0 ?_ ?_ ?_)
    all_goals (intros; pointwise [qOf, vOf, memOf])
    all_goals blk_ext

/-- What they leave in the stabilizer. -/
theorem stb_next (c : Dev nD) (t : Fin cfg0.N) (hB : ¬ t.val % 128 = 0) (S : Fin 4 → State)
    (hS : ∀ p, Holds (outsAt0 m c (t.val - 1) p).2.1 (outsAt0 m c (t.val - 1) p).2.2.1 (outsAt0 m c (t.val - 1) p).2.2.2 S)
    (y : S8x128.Idx) (h : Fin 4) (d : Fin 128) (hh : (y 0).val = h.val) (hd : (y 1).val = d.val) :
    ((outsAt0 m c t.val t.isLt).2.2.2 y : EReal) = (((args m c).chunk (at_ t) h).next (S h)).M := by
  rw [outsAt0_B m c t hB]
  frame_out
  have hS' := hS (by omega)
  revert hS'
  generalize (outsAt0 m c (↑t - 1) _) = o
  obtain ⟨o1, oC, on, oM⟩ := o
  intro hS'
  dsimp only at hS'
  dsimp only
  refine (View.read_writes_apply_eq_canon _ _ _ _ (cover_rows _ _ _ _ h y hh)).trans ?_
  canon_tiles x z using cover_rows _ _ _ _ h y hh
  · obtain rfl : h = 3 := by omega
    obtain rfl : x = ix2 0 d := by blk_ext
    rw [stb3 (qOf m c t 3) (kOf m c t 3) (vOf m c t 3) _ (memOf oC 3) (nrmOf on 3), read_unread_whole]
    refine stb_congr (chunk_at m c t 3 rfl rfl ?_ ?_ ?_) (state_at hS' 3 ?_ ?_ ?_)
    all_goals (intros; pointwise [qOf, kOf, vOf, memOf, nrmOf])
    all_goals blk_ext
  · obtain rfl : h = 2 := by omega
    obtain rfl : x = ix2 0 d := by blk_ext
    rw [stb2 (qOf m c t 2) (kOf m c t 2) (vOf m c t 2) _ (memOf oC 2) (nrmOf on 2), read_unread_whole]
    refine stb_congr (chunk_at m c t 2 rfl rfl ?_ ?_ ?_) (state_at hS' 2 ?_ ?_ ?_)
    all_goals (intros; pointwise [qOf, kOf, vOf, memOf, nrmOf])
    all_goals blk_ext
  · obtain rfl : h = 1 := by omega
    obtain rfl : x = ix2 0 d := by blk_ext
    rw [stb1 (qOf m c t 1) (kOf m c t 1) (vOf m c t 1) _ (memOf oC 1) (nrmOf on 1), read_unread_whole]
    refine stb_congr (chunk_at m c t 1 rfl rfl ?_ ?_ ?_) (state_at hS' 1 ?_ ?_ ?_)
    all_goals (intros; pointwise [qOf, kOf, vOf, memOf, nrmOf])
    all_goals blk_ext
  · obtain rfl : h = 0 := by omega
    obtain rfl : x = ix2 0 d := by blk_ext
    rw [stb0 (qOf m c t 0) (kOf m c t 0) (vOf m c t 0) _ (memOf oC 0) (nrmOf on 0), read_unread_whole]
    refine stb_congr (chunk_at m c t 0 rfl rfl ?_ ?_ ?_) (state_at hS' 0 ?_ ?_ ?_)
    all_goals (intros; pointwise [qOf, kOf, vOf, memOf, nrmOf])
    all_goals blk_ext

end Cert.Proof.Mlstm

end
-- ==== Proof.MlstmKernelValue.lean ====
/-
  The kernel's result array: by induction over the grid points, the scratches hold the heads' states and each point's block
  is the chunk's result.
-/
module

public import proofs.«01_k».proof.Defs
public import proofs.«01_k».proof.Proof.MlstmFirst
public import proofs.«01_k».proof.Proof.MlstmLater
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Mlstm

/-- The call's result at a row and a column of the array. -/
def Args.entry (A : Args) (r : Fin 16384) (j : Fin 1024) : EReal :=
  A.result ⟨r.val / 128, by omega⟩ ⟨j.val / 256, by omega⟩ ⟨r.val % 128, by omega⟩ ⟨j.val % 256, by omega⟩

/-- The entry at a chunk's row and a head's lane. -/
theorem Args.entry_eq (A : Args) (r : Fin 16384) (j : Fin 1024) (t : Fin 128) (h : Fin 4) (l : Fin 128) (e : Fin 256)
    (hr : r.val = t.val * 128 + l.val) (hj : j.val = h.val * 256 + e.val) : A.entry r j = A.result t h l e := by
  unfold Args.entry
  congr 1 <;> (apply Fin.ext; dsimp only; omega)

open Cert.MlstmKernelIdeal Cert.MlstmKernelIdeal.Gen

variable (m : (ℓ : Loc nD τ sig) → Buf (Elt Ideal) ℓ) (c : Dev nD)

/-- After the point numbered `n` the scratches hold the states before chunk `n + 1`. -/
theorem holds : ∀ (n : ℕ) (hn : n < cfg0.N),
    Holds (outsAt0 m c n hn).2.1 (outsAt0 m c n hn).2.2.1 (outsAt0 m c n hn).2.2.2 (fun h => (args m c).state h (n + 1))
  | 0, hn => by
    have e : ∀ h, (args m c).state h (0 + 1) = ((args m c).chunk (at_ ⟨0, hn⟩) h).next State.zero := fun h => (args m c).state_succ h ⟨0, by omega⟩
    refine ⟨fun h d x => ?_, fun h d => ?_, fun h d => ?_⟩
    · rw [e h]
      exact mem_first m c ⟨0, hn⟩ rfl (ix3 h d x) h d x rfl rfl rfl
    · rw [e h]
      exact nrm_first m c ⟨0, hn⟩ rfl (ix2 ⟨h.val, by omega⟩ d) h d rfl rfl
    · rw [e h]
      exact stb_first m c ⟨0, hn⟩ rfl (ix2 ⟨h.val, by omega⟩ d) h d rfl rfl
  | n + 1, hn => by
    have hN : n + 1 < 128 := lt_of_lt_of_eq hn N_0
    have e : ∀ h, (args m c).state h (n + 1 + 1) = ((args m c).chunk (at_ ⟨n + 1, hn⟩) h).next ((args m c).state h (n + 1)) :=
      fun h => (args m c).state_succ h ⟨n + 1, hN⟩
    have hB : ¬ (⟨n + 1, hn⟩ : Fin cfg0.N).val % 128 = 0 := by
      show ¬ (n + 1) % 128 = 0
      omega
    have hS : ∀ p, Holds (outsAt0 m c ((⟨n + 1, hn⟩ : Fin cfg0.N).val - 1) p).2.1 (outsAt0 m c ((⟨n + 1, hn⟩ : Fin cfg0.N).val - 1) p).2.2.1
        (outsAt0 m c ((⟨n + 1, hn⟩ : Fin cfg0.N).val - 1) p).2.2.2 (fun h => (args m c).state h (n + 1)) := fun p => holds n p
    refine ⟨fun h d x => ?_, fun h d => ?_, fun h d => ?_⟩
    · rw [e h]
      exact mem_next m c ⟨n + 1, hn⟩ hB _ hS (ix3 h d x) h d x rfl rfl rfl
    · rw [e h]
      exact nrm_next m c ⟨n + 1, hn⟩ hB _ hS (ix2 ⟨h.val, by omega⟩ d) h d rfl rfl
    · rw [e h]
      exact stb_next m c ⟨n + 1, hn⟩ hB _ hS (ix2 ⟨h.val, by omega⟩ d) h d rfl rfl

/-- The output block of a point. -/
theorem block (t : Fin cfg0.N) (y : S128x1024.Idx) (h : Fin 4) (l : Fin 128) (e : Fin 256) (hl : (y 0).val = l.val)
    (he : (y 1).val = h.val * 256 + e.val) : ((outsAt0 m c t.val t.isLt).1 y : EReal) = (args m c).result (at_ t) h l e := by
  unfold Args.result Args.hidden
  by_cases h0 : t.val % 128 = 0
  · have hN : t.val < 128 := lt_of_lt_of_eq t.isLt N_0
    refine (out_first m c t h0 y h l e ⟨h.val * 256 + e.val, by omega⟩ hl he rfl).trans ?_
    rw [show (at_ t).val = 0 from (by show t.val = 0; omega)]
    rfl
  · have hN : t.val < 128 := lt_of_lt_of_eq t.isLt N_0
    refine (out_next m c t h0 (fun h => (args m c).state h t.val) (fun p => ?_) y h l e ⟨h.val * 256 + e.val, by omega⟩ hl he rfl).trans rfl
    have e1 : t.val - 1 + 1 = t.val := by omega
    have := holds m c (t.val - 1) p
    rw [e1] at this
    exact this

/-- The result array after the run. -/
theorem kernel_final : (dats m 0 c).arrAt 7 (cfgs 0).N
    = (show FVec Ideal S16384x1024 .bf16 from fun i => (args m c).entry (i 0) (i 1)) := by
  refine (dats m 0 c).arrAt_eq_of_covers 7 _ (by decide +kernel) fun t _ y => ?_
  have y1 : (y 1).val < 1024 := (y 1).isLt
  have y0 : (y 0).val < 128 := (y 0).isLt
  have e0 : (((cfg0.win 7).blk t).view.emb y 0).val = t.val * 128 + (y 0).val := by blk_simp [idx t]
  have e1 : (((cfg0.win 7).blk t).view.emb y 1).val = (y 1).val := by blk_simp [idx t]
  blk_simp
  rw [after0_7]
  refine (block m c t y ⟨(y 1).val / 256, by omega⟩ ⟨(y 0).val, y0⟩ ⟨(y 1).val % 256, by omega⟩ rfl (by dsimp only; omega)).trans ?_
  refine ((args m c).entry_eq _ _ _ _ _ _ e0 ?_).symm
  rw [e1]
  dsimp only
  omega

end Cert.Proof.Mlstm

end
-- ==== Proof.MlstmReal.lean ====
/-
  The capped gates are real, so the stabilizers never reach the top, so a row's denominator is never zero.
-/
module

public import proofs.«01_k».proof.Proof.MlstmSpec
public import Idealize.ShloMosaic.Lib.Pointwise
public import Idealize.ShloMosaic.Lib.IdealHost

@[expose] public section

noncomputable section

open Idealize.ShloMosaic

namespace Cert.Proof.Mlstm

/-- A capped logit is real. -/
theorem cap_real (x : EReal) : ∃ r : ℝ, cap x = (r : EReal) := by
  obtain ⟨a, ha⟩ : ∃ a : ℝ, Ideal.ofBits .f32 0x41700000#32 = (a : EReal) :=
    ⟨15, by simp [Ideal.ofBits, Ideal.ieee, -EReal.coe_mul]; norm_num⟩
  obtain ⟨b, hb⟩ : ∃ b : ℝ, Ideal.tanh (Ideal.div x (Ideal.ofBits .f32 0x41700000#32)) = (b : EReal) := by
    generalize Ideal.div x _ = y
    induction y using EReal.rec with
    | bot => exact ⟨-1, rfl⟩
    | top => exact ⟨1, rfl⟩
    | coe r => exact ⟨Real.tanh r, rfl⟩
  exact ⟨a * b, by rw [cap, hb, ha, EReal.coe_mul]⟩

/-- One plus an exponential has a real logarithm. -/
theorem log1p_exp_real (y : ℝ) : ∃ L : ℝ, Ideal.log1p (Ideal.exp (y : EReal)) = (L : EReal) := by
  have h1 : (1 : EReal) + ((Real.exp y : ℝ) : EReal) = ((1 + Real.exp y : ℝ) : EReal) := by norm_cast
  refine ⟨Real.log (1 + Real.exp y), ?_⟩
  show Ideal.log (1 + ((Real.exp y : ℝ) : EReal)) = _
  rw [h1]
  show (if 1 + Real.exp y ≤ 0 then (⊥ : EReal) else _) = _
  rw [if_neg (not_le.mpr (by positivity))]

/-- The absolute value of a real. -/
theorem absf_real (r : ℝ) : FloatOps.absf (F := Ideal) (φ := .f32) (r : EReal) = ((|r| : ℝ) : EReal) := by
  show max (r : EReal) (-(r : EReal)) = _
  rw [← EReal.coe_neg, abs_eq_max_neg]
  exact (EReal.coe_strictMono.monotone.map_max (a := r) (b := -r)).symm

/-- The log logistic function of a real is real, and is minus the softplus of minus it. -/
theorem logSigmoid_real (r : ℝ) : ∃ L : ℝ, Ideal.log1p (Ideal.exp (-(((|r| : ℝ) : EReal)))) = (L : EReal)
    ∧ logSigmoid (r : EReal) = ((min r 0 - L : ℝ) : EReal) := by
  obtain ⟨L, hL⟩ := log1p_exp_real (-|r|)
  rw [EReal.coe_neg] at hL
  refine ⟨L, hL, ?_⟩
  rw [logSigmoid, absf_real, zero_sub, hL, EReal.coe_sub]
  rw [EReal.coe_strictMono.monotone.map_min (a := r) (b := 0)]
  rfl

/-- The reference's form of the log logistic function. -/
theorem neg_softplus (x : EReal) (r : ℝ) (hx : x = r) (p : Prop) [Decidable p] (hp : ¬ p) (a : EReal) :
    -(if p then a else max (-x) 0 + Ideal.log1p (Ideal.exp (-FloatOps.absf (F := Ideal) (φ := .f32) (-x)))) = logSigmoid x := by
  obtain ⟨L, hL, e⟩ := logSigmoid_real r
  rw [if_neg hp, hx, e, ← EReal.coe_neg, absf_real, abs_neg, hL]
  have h0 : max ((-r : ℝ) : EReal) 0 = ((max (-r) 0 : ℝ) : EReal) := (EReal.coe_strictMono.monotone.map_max (a := -r) (b := 0)).symm
  rw [h0, ← EReal.coe_add, ← EReal.coe_neg]
  congr 1
  have : max (-r) 0 = -min r 0 := by rw [← neg_zero, max_neg_neg, neg_zero]
  rw [this]
  ring

/-- A running sum of reals is real. -/
theorem runningSum_real (f : Fin 128 → EReal) (h : ∀ j, ∃ r : ℝ, f j = r) (l : Fin 128) : ∃ r : ℝ, runningSum f l = (r : EReal) := by
  refine Finset.sum_induction _ (fun x : EReal => ∃ r : ℝ, x = r) ?_ ⟨0, rfl⟩ fun j _ => ?_
  · rintro _ _ ⟨x, rfl⟩ ⟨y, rfl⟩
    exact ⟨x + y, (EReal.coe_add x y).symm⟩
  · split
    · exact h j
    · exact ⟨0, rfl⟩

/-- The value every maximum starts from is below the top. -/
theorem lowest_lt_top : lowest < ⊤ := by simp [lowest, Ideal.ofBits, Ideal.ieee]

/-- A maximum of values below the top is below the top. -/
theorem fold_lt_top (f : Fin 128 → EReal) (hf : ∀ s, f s < ⊤) : Finset.univ.fold max lowest f < ⊤ := by
  refine Finset.induction_on (Finset.univ : Finset (Fin 128)) lowest_lt_top fun a s ha ih => ?_
  rw [Finset.fold_insert ha]
  exact max_lt (hf a) ih

/-- A real plus what is not the top is not the top. -/
theorem add_lt_top {r : ℝ} {M : EReal} (hM : M < ⊤) : (r : EReal) + M < ⊤ := EReal.add_lt_top (EReal.coe_ne_top r) hM.ne

variable (A : Args) (h : Fin 4)

/-- A gate is real. -/
theorem ig_real (t s : Fin 128) : ∃ r : ℝ, (A.chunk t h).ig s = (r : EReal) := cap_real _

/-- A running sum of log forget gates is real. -/
theorem b_real (t l : Fin 128) : ∃ r : ℝ, (A.chunk t h).b l = (r : EReal) := by
  show ∃ r : ℝ, runningSum (fun s => logSigmoid (A.gate (row t s) ⟨4 + h.val, by omega⟩)) l = (r : EReal)
  refine runningSum_real _ (fun j => ?_) l
  obtain ⟨r, hr⟩ := cap_real (A.pre (row t j) ⟨4 + h.val, by omega⟩ + A.bias ⟨4 + h.val, by omega⟩)
  obtain ⟨L, -, e⟩ := logSigmoid_real r
  exact ⟨_, by rw [Args.gate, hr, e]⟩

/-- The log weights are below the top. -/
theorem log_lt_top (t l s : Fin 128) : (A.chunk t h).b l - (A.chunk t h).b s + (A.chunk t h).ig s < ⊤ := by
  obtain ⟨x, hx⟩ := b_real A h t l
  obtain ⟨y, hy⟩ := b_real A h t s
  obtain ⟨z, hz⟩ := ig_real A h t s
  rw [hx, hy, hz, ← EReal.coe_sub, ← EReal.coe_add]
  exact EReal.coe_lt_top _

/-- The state's stabilizer stays below the top. -/
theorem state_lt_top : ∀ t : ℕ, (A.state h t).M < ⊤
  | 0 => EReal.coe_lt_top 0
  | t + 1 => by
    rw [Args.state]
    split
    · obtain ⟨x, hx⟩ := b_real A h ⟨t, by assumption⟩ 127
      refine max_lt ?_ (fold_lt_top _ fun s => log_lt_top A h _ 127 s)
      rw [hx]
      exact add_lt_top (state_lt_top t)
    · exact state_lt_top t

/-- A row's stabilizer is below the top. -/
theorem rowMax_lt_top (t l : Fin 128) : (A.chunk t h).rowMax (A.state h t.val) l < ⊤ := by
  obtain ⟨x, hx⟩ := b_real A h t l
  refine max_lt ?_ (fold_lt_top _ fun s => ?_)
  · rw [hx]
    exact add_lt_top (state_lt_top A h t.val)
  · rw [Chunk.logD]
    split
    · exact log_lt_top A h t l s
    · exact lowest_lt_top

/-- An exponential of what is not the bottom is positive. -/
theorem exp_pos {x : EReal} (hx : x ≠ ⊥) : 0 < Ideal.exp x := by
  induction x using EReal.rec with
  | bot => exact absurd rfl hx
  | top => exact EReal.coe_lt_top 0
  | coe r => exact EReal.coe_pos.mpr (Real.exp_pos r)

/-- A row's denominator is not zero. -/
theorem scale_ne_zero (t l : Fin 128) : (A.chunk t h).scale (A.state h t.val) l ≠ 0 := by
  refine (lt_of_lt_of_le (exp_pos ?_) (le_max_right _ _)).ne'
  have := rowMax_lt_top A h t l
  rw [zero_sub]
  intro e
  rw [EReal.neg_eq_bot_iff] at e
  exact this.ne e

end Cert.Proof.Mlstm

end
-- ==== Proof.MlstmEntry.lean ====
/-
  The arrays the reference's loop starts from, entry by entry.
-/
module

public import proofs.«01_k».proof.Defs
public import proofs.«01_k».proof.Proof.MlstmSpec
public import proofs.«01_k».proof.Proof.Gen.MlstmReferenceIdeal.Run
public import proofs.«01_k».proof.Proof.MlstmReal
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.StableHlo Idealize.SL.Sem

namespace Cert.Proof.Mlstm

open Cert.MlstmReferenceIdeal Cert.MlstmReferenceIdeal.Gen Cert.MlstmReferenceIdeal.Value

variable (m : (ℓ : Loc nD τ sig) → Buf (Elt Ideal) ℓ) (c : Dev nD)

/-- The reference's arguments in memory. -/
def rargs : Args :=
  ⟨fun r j => (show FVec Ideal S16384x2048 .bf16 from m ((c : Thread nD τ).loc main_arg0)) (ix2 r j),
    fun r g => (show FVec Ideal S16384x128 .f32 from m ((c : Thread nD τ).loc main_arg1)) (ix2 r g),
    fun g => (show FVec Ideal S8 .f32 from m ((c : Thread nD τ).loc main_arg2)) (ix1 g),
    fun j => (show FVec Ideal S1024 .f32 from m ((c : Thread nD τ).loc main_arg4)) (ix1 j),
    fun r j => (show FVec Ideal S16384x1024 .f32 from m ((c : Thread nD τ).loc main_arg3)) (ix2 r j)⟩

/-- The queries the loop starts from. -/
theorem entry_q (t l d : Fin 128) (h : Fin 4) :
    (show FVec Ideal S128x1x4x128x128 .f32 from entryContents preI m c (Proc.devRef .tc main_v43_0)) (ix5 t 0 h l d)
      = ((rargs m c).chunk t h).q l d := by
  simp only [entryContents, afterL_cons, afterL_nil]
  after_reads_simp
  simp only [id_eq]
  unfold rargs Args.chunk row
  pointwise

/-- The keys the loop starts from. -/
theorem entry_k (t l d : Fin 128) (h : Fin 4) :
    (show FVec Ideal S128x1x4x128x128 .f32 from entryContents preI m c (Proc.devRef .tc main_v43_1)) (ix5 t 0 h l d)
      = ((rargs m c).chunk t h).k l d := by
  simp only [entryContents, afterL_cons, afterL_nil]
  after_reads_simp
  simp only [id_eq]
  unfold rargs Args.chunk row
  pointwise

/-- The values the loop starts from. -/
theorem entry_v (t l : Fin 128) (e : Fin 256) (h : Fin 4) :
    (show FVec Ideal S128x1x4x128x256 .f32 from entryContents preI m c (Proc.devRef .tc main_v43_2)) (ix5 t 0 h l e)
      = ((rargs m c).chunk t h).v l e := by
  simp only [entryContents, afterL_cons, afterL_nil]
  after_reads_simp
  simp only [id_eq]
  unfold rargs Args.chunk row
  pointwise

/-- The input gates the loop starts from. -/
theorem entry_ig (t l : Fin 128) (h : Fin 4) :
    (show FVec Ideal S128x1x4x128 .f32 from entryContents preI m c (Proc.devRef .tc main_v43_3)) (ix4 t 0 h l)
      = ((rargs m c).chunk t h).ig l := by
  simp only [entryContents, afterL_cons, afterL_nil]
  after_reads_simp
  simp only [id_eq]
  unfold rargs Args.chunk Args.gate row cap
  pointwise

/-- The causal mask the loop starts from. -/
theorem entry_mask (l s : Fin 128) :
    (show Vec Ideal S128x128 .i1 from entryContents preI m c (Proc.devRef .tc main_v43_5)) (ix2 l s) = if s ≤ l then 1#1 else 0#1 := by
  simp only [entryContents, afterL_cons, afterL_nil]
  after_reads_simp
  simp only [id_eq, TRef.toBuf, TRef.ofBuf, cast_eq]
  pointwise
  rw [show IntOp.addi (BitVec.ofNat 32 l.val) 0#32 = BitVec.ofNat 32 l.val from BitVec.add_zero _, cmp_causal]
  by_cases hs : s ≤ l <;> simp [hs, Scalar.select]

/-- The loop's first matrix memory. -/
theorem entry_C (h : Fin 4) (d : Fin 128) (e : Fin 256) :
    (show FVec Ideal S1x4x128x256 .f32 from entryContents preI m c (Proc.devRef .tc main_v43_7)) (ix4 0 h d e) = (0 : EReal) := by
  simp only [entryContents, afterL_cons, afterL_nil]
  after_reads_simp
  simp only [id_eq, TRef.toBuf, TRef.ofBuf, cast_eq]
  pointwise

/-- The loop's first normalizer. -/
theorem entry_n (h : Fin 4) (d : Fin 128) :
    (show FVec Ideal S1x4x128 .f32 from entryContents preI m c (Proc.devRef .tc main_v43_8)) (ix3 0 h d) = (0 : EReal) := by
  simp only [entryContents, afterL_cons, afterL_nil]
  after_reads_simp
  simp only [id_eq, TRef.toBuf, TRef.ofBuf, cast_eq]
  pointwise

/-- The loop's first stabilizer. -/
theorem entry_M (h : Fin 4) :
    (show FVec Ideal S1x4 .f32 from entryContents preI m c (Proc.devRef .tc main_v43_9)) (ix2 0 h) = (0 : EReal) := by
  simp only [entryContents, afterL_cons, afterL_nil]
  after_reads_simp
  simp only [id_eq, TRef.toBuf, TRef.ofBuf, cast_eq]
  pointwise

/-- The log forget gates the loop starts from. -/
theorem entry_lf (t l : Fin 128) (h : Fin 4) :
    (show FVec Ideal S128x1x4x128 .f32 from entryContents preI m c (Proc.devRef .tc main_v43_4)) (ix4 t 0 h l)
      = logSigmoid ((rargs m c).gate (row t l) ⟨4 + h.val, by omega⟩) := by
  simp only [entryContents, afterL_cons, afterL_nil]
  after_reads_simp
  simp only [id_eq, TRef.toBuf, TRef.ofBuf, cast_eq]
  unfold rargs Args.gate row cap
  pointwise
  exact neg_softplus _ _ (cap_real _).choose_spec _ (by simp) _

end Cert.Proof.Mlstm

end
-- ==== Proof.MlstmCumsum.lean ====
/-
  The reference's running sums: a window sum over everything before, as a sum over the positions up to each.
-/
module

public import proofs.«01_k».proof.Proof.MlstmSpec
public import Idealize.ShloMosaic.Lib.Pointwise

@[expose] public section

noncomputable section

open Idealize.ShloMosaic

namespace Cert.Proof.Mlstm

/-- A left fold of additions is the sum. -/
theorem foldl_add {ι : Type} (g : ι → EReal) (L : List ι) : ∀ a : EReal, L.foldl (fun r n => r + g n) a = a + (L.map g).sum := by
  induction L with
  | nil => intro a; simp
  | cons x L ih => intro a; simp only [List.foldl_cons, List.map_cons, List.sum_cons]; rw [ih, add_assoc]

/-- The window's positions, shifted round by the row, are the positions up to the row. -/
theorem sum_shift (f : Fin 128 → EReal) (l : Fin 128) :
    ∑ w : Fin 128, (if h : 127 ≤ l.val + w.val then f ⟨l.val + w.val - 127, by omega⟩ else 0) = runningSum f l := by
  refine Eq.trans ?_ (Equiv.sum_comp (Equiv.addRight (l + 1)) fun j => if j ≤ l then f j else 0)
  refine Finset.sum_congr rfl fun w _ => ?_
  have e : ((Equiv.addRight (l + 1)) w).val = (w.val + (l.val + 1)) % 128 := by
    simp [Fin.val_add, Nat.add_assoc]
  by_cases h : 127 ≤ l.val + w.val
  · have e' : (Equiv.addRight (l + 1)) w = ⟨l.val + w.val - 127, by omega⟩ := Fin.ext (by rw [e]; show _ = l.val + w.val - 127; omega)
    rw [dif_pos h, e', if_pos (Fin.le_def.mpr (by show l.val + w.val - 127 ≤ l.val; omega))]
  · rw [dif_neg h, if_neg fun q => by have := Fin.le_def.mp q; rw [e] at this; omega]

/-- The window sum at an entry. -/
theorem cumsum_at (x : FVec Ideal (⟨3, ![1, 4, 128]⟩ : Shape) .f32) (init : FVec Ideal (⟨0, ![]⟩ : Shape) .f32)
    (hr : (⟨3, ![1, 4, 128]⟩ : Shape).ReduceWindows (![1, 1, 128] : Fin 3 → Nat) ![1, 1, 1] ![0, 0, 127] ![0, 0, 0] ⟨3, ![1, 4, 128]⟩)
    (hu : 0 < (⟨0, ![]⟩ : Shape).numel) (hi : init (Shape.Idx.first hu) = (0 : EReal)) (h : Fin 4) (l : Fin 128) :
    Host.reduceWindowAdd ![1, 1, 128] ![1, 1, 1] ![0, 0, 127] ![0, 0, 0] x init hr hu (ix3 0 h l)
      = runningSum (fun j => x (ix3 0 h j)) l := by
  unfold Host.reduceWindowAdd
  rw [hi, Ideal.hostReduceWindowAdd_def]
  unfold Ideal.hostReduceWindowAdd Host.reduceWindow
  dsimp only
  let g : (⟨3, ![1, 1, 128]⟩ : Shape).Idx → EReal := fun w =>
    if h' : 127 ≤ l.val + (w 2).val then x (ix3 0 h ⟨l.val + (w 2).val - 127, by have := (w 2).isLt; change (w 2).val < 128 at this; omega⟩) else 0
  refine Eq.trans (b := List.foldl (fun r n => r + g ((⟨3, ![1, 1, 128]⟩ : Shape).rowMajor.symm n)) 0 (List.finRange (⟨3, ![1, 1, 128]⟩ : Shape).numel)) ?_ ?_
  · congr 1
    funext r n
    refine congrArg (r + ·) ?_
    have w0 : ((⟨3, ![1, 1, 128]⟩ : Shape).rowMajor.symm n 0).val = 0 := by have := ((⟨3, ![1, 1, 128]⟩ : Shape).rowMajor.symm n 0).isLt; change ((⟨3, ![1, 1, 128]⟩ : Shape).rowMajor.symm n 0).val < 1 at this; omega
    have w1 : ((⟨3, ![1, 1, 128]⟩ : Shape).rowMajor.symm n 1).val = 0 := by have := ((⟨3, ![1, 1, 128]⟩ : Shape).rowMajor.symm n 1).isLt; change ((⟨3, ![1, 1, 128]⟩ : Shape).rowMajor.symm n 1).val < 1 at this; omega
    have w2 : ((⟨3, ![1, 1, 128]⟩ : Shape).rowMajor.symm n 2).val < 128 := ((⟨3, ![1, 1, 128]⟩ : Shape).rowMajor.symm n 2).isLt
    by_cases hc : 127 ≤ l.val + ((⟨3, ![1, 1, 128]⟩ : Shape).rowMajor.symm n 2).val
    · show _ = dite _ _ _
      rw [dif_pos hc, dif_pos]
      · refine congrArg x (funext fun a => Fin.ext ?_)
        match a with
        | ⟨0, _⟩ => show 0 * 1 + ((⟨3, ![1, 1, 128]⟩ : Shape).rowMajor.symm n 0).val - 0 = 0; omega
        | ⟨1, _⟩ => show h.val * 1 + ((⟨3, ![1, 1, 128]⟩ : Shape).rowMajor.symm n 1).val - 0 = h.val; omega
        | ⟨2, _⟩ => show l.val * 1 + ((⟨3, ![1, 1, 128]⟩ : Shape).rowMajor.symm n 2).val - 127 = l.val + ((⟨3, ![1, 1, 128]⟩ : Shape).rowMajor.symm n 2).val - 127; omega
      · intro a
        match a with
        | ⟨0, _⟩ => show 0 ≤ 0 * 1 + ((⟨3, ![1, 1, 128]⟩ : Shape).rowMajor.symm n 0).val ∧ 0 * 1 + ((⟨3, ![1, 1, 128]⟩ : Shape).rowMajor.symm n 0).val - 0 < 1; omega
        | ⟨1, _⟩ => show 0 ≤ h.val * 1 + ((⟨3, ![1, 1, 128]⟩ : Shape).rowMajor.symm n 1).val ∧ h.val * 1 + ((⟨3, ![1, 1, 128]⟩ : Shape).rowMajor.symm n 1).val - 0 < 4; omega
        | ⟨2, _⟩ => show 127 ≤ l.val * 1 + ((⟨3, ![1, 1, 128]⟩ : Shape).rowMajor.symm n 2).val ∧ l.val * 1 + ((⟨3, ![1, 1, 128]⟩ : Shape).rowMajor.symm n 2).val - 127 < 128; omega
    · show _ = dite _ _ _
      rw [dif_neg hc, dif_neg]
      intro q
      have q2 := (q 2).1
      change 127 ≤ l.val * 1 + ((⟨3, ![1, 1, 128]⟩ : Shape).rowMajor.symm n 2).val at q2
      omega
  · rw [foldl_add, zero_add, ← Fin.sum_univ_def, Equiv.sum_comp (⟨3, ![1, 1, 128]⟩ : Shape).rowMajor.symm g, sum_idx3]
    rw [Fin.sum_univ_one, Fin.sum_univ_one]
    exact sum_shift (fun j => x (ix3 0 h j)) l

end Cert.Proof.Mlstm

end
-- ==== Proof.MlstmSlices.lean ====
/-
  What the reference's loop reads on one trip: the chunk the counter names, and the running sums of its log forget gates.
-/
module

public import proofs.«01_k».proof.Defs
public import proofs.«01_k».proof.Proof.MlstmSpec
public import proofs.«01_k».proof.Proof.Gen.MlstmReferenceIdeal.Run
public import proofs.«01_k».proof.Proof.MlstmReal
public import proofs.«01_k».proof.Proof.MlstmCumsum
public import Idealize.ShloMosaic.Lib.WordArith.Masks
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.StableHlo Idealize.SL.Sem

namespace Cert.Proof.Mlstm

open Cert.MlstmReferenceIdeal Cert.MlstmReferenceIdeal.Gen Cert.MlstmReferenceIdeal.Value

/-- A counter word below 128 reads as its number. -/
theorem iv_toInt (t : Fin 128) : (Scf.iv 0#32 1#32 t.val).toInt = (t.val : ℤ) := by
  have h := WordArith.toNat_iv_zero_one t.val (by omega)
  rw [BitVec.toInt_eq_toNat_of_lt (by rw [h]; have := t.isLt; omega), h]

/-- What the loop's arrays hold before trip `T`. -/
structure At (A : Args) (T : ℕ) (V : Valuation τ sig (Elt Ideal)) : Prop where
  q : ∀ (t : Fin 128) (h : Fin 4) (l d : Fin 128),
    (V (Proc.devRef .tc main_v43_0) : FVec Ideal S128x1x4x128x128 .f32) (ix5 t 0 h l d) = (A.chunk t h).q l d
  k : ∀ (t : Fin 128) (h : Fin 4) (l d : Fin 128),
    (V (Proc.devRef .tc main_v43_1) : FVec Ideal S128x1x4x128x128 .f32) (ix5 t 0 h l d) = (A.chunk t h).k l d
  v : ∀ (t : Fin 128) (h : Fin 4) (l : Fin 128) (e : Fin 256),
    (V (Proc.devRef .tc main_v43_2) : FVec Ideal S128x1x4x128x256 .f32) (ix5 t 0 h l e) = (A.chunk t h).v l e
  ig : ∀ (t : Fin 128) (h : Fin 4) (l : Fin 128),
    (V (Proc.devRef .tc main_v43_3) : FVec Ideal S128x1x4x128 .f32) (ix4 t 0 h l) = (A.chunk t h).ig l
  lf : ∀ (t : Fin 128) (h : Fin 4) (l : Fin 128),
    (V (Proc.devRef .tc main_v43_4) : FVec Ideal S128x1x4x128 .f32) (ix4 t 0 h l) = logSigmoid (A.gate (row t l) ⟨4 + h.val, by omega⟩)
  mask : ∀ l s : Fin 128, (V (Proc.devRef .tc main_v43_5) : Vec Ideal S128x128 .i1) (ix2 l s) = if s ≤ l then 1#1 else 0#1
  ctr : V (Proc.devRef .tc main_v43_6) = fun _ => Scf.iv 0#32 1#32 T
  C : ∀ (h : Fin 4) (d : Fin 128) (e : Fin 256), (V (Proc.devRef .tc main_v43_7) : FVec Ideal S1x4x128x256 .f32) (ix4 0 h d e) = (A.state h T).C d e
  n : ∀ (h : Fin 4) (d : Fin 128), (V (Proc.devRef .tc main_v43_8) : FVec Ideal S1x4x128 .f32) (ix3 0 h d) = (A.state h T).n d
  M : ∀ h : Fin 4, (V (Proc.devRef .tc main_v43_9) : FVec Ideal S1x4 .f32) (ix2 0 h) = (A.state h T).M

variable {A : Args} {t : Fin 128} {V : Valuation τ sig (Elt Ideal)}

/-- The counter and then zeros, as starts. -/
theorem start5 {w : IVec S_ 32} (hw : w = fun _ => Scf.iv 0#32 1#32 t.val) (k : Fin 5) :
    ((![w, constantI S_ 32 0#32, constantI S_ 32 0#32, constantI S_ 32 0#32, constantI S_ 32 0#32] : Fin 5 → IVec S_ 32) k (Shape.Idx.first h_S_)).toInt
      = ((if k = 0 then t.val else 0 : ℕ) : ℤ) := by
  subst hw
  fin_cases k
  · exact iv_toInt t
  all_goals rfl

/-- The counter and then zeros, as starts. -/
theorem start4 {w : IVec S_ 32} (hw : w = fun _ => Scf.iv 0#32 1#32 t.val) (k : Fin 4) :
    ((![w, constantI S_ 32 0#32, constantI S_ 32 0#32, constantI S_ 32 0#32] : Fin 4 → IVec S_ 32) k (Shape.Idx.first h_S_)).toInt
      = ((if k = 0 then t.val else 0 : ℕ) : ℤ) := by
  subst hw
  fin_cases k
  · exact iv_toInt t
  all_goals rfl

/-- The chunk the counter names, of an array of chunks of 128 lanes. -/
theorem slice_keys (x : FVec Ideal S128x1x4x128x128 .f32) (f : Fin 5 → ℤ) (hf : ∀ k, f k = ((if k = 0 then t.val else 0 : ℕ) : ℤ))
    (h : Fin 4) (l d : Fin 128) :
    shapeCast S1x4x128x128 (Host.dynamicSlice S1x1x4x128x128 x f sliceFits_S128x1x4x128x128_S1x1x4x128x128) shapeCasts_S1x1x4x128x128_S1x4x128x128 (ix4 0 h l d)
      = x (ix5 t 0 h l d) := by
  have ht := t.isLt
  have c : ∀ k : Fin 5, Host.clampedStart S128x1x4x128x128 S1x1x4x128x128 rfl f k = if k = 0 then t.val else 0 := fun k =>
    Host.clampedStart_of_le _ _ _ _ (hf k) (by fin_cases k <;> simp [Shape.size] <;> omega)
  pointwise
  simp only [c, Fin.reduceEq, if_true, if_false, Nat.zero_add, Fin.eta]
  rfl

/-- The chunk the counter names, of an array of chunks of 256 lanes. -/
theorem slice_values (x : FVec Ideal S128x1x4x128x256 .f32) (f : Fin 5 → ℤ) (hf : ∀ k, f k = ((if k = 0 then t.val else 0 : ℕ) : ℤ))
    (h : Fin 4) (l : Fin 128) (e : Fin 256) :
    shapeCast S1x4x128x256 (Host.dynamicSlice S1x1x4x128x256 x f sliceFits_S128x1x4x128x256_S1x1x4x128x256) shapeCasts_S1x1x4x128x256_S1x4x128x256 (ix4 0 h l e)
      = x (ix5 t 0 h l e) := by
  have ht := t.isLt
  have c : ∀ k : Fin 5, Host.clampedStart S128x1x4x128x256 S1x1x4x128x256 rfl f k = if k = 0 then t.val else 0 := fun k =>
    Host.clampedStart_of_le _ _ _ _ (hf k) (by fin_cases k <;> simp [Shape.size] <;> omega)
  pointwise
  simp only [c, Fin.reduceEq, if_true, if_false, Nat.zero_add, Fin.eta]
  rfl

/-- The chunk the counter names, of an array of chunks of gates. -/
theorem slice_gates (x : FVec Ideal S128x1x4x128 .f32) (f : Fin 4 → ℤ) (hf : ∀ k, f k = ((if k = 0 then t.val else 0 : ℕ) : ℤ))
    (h : Fin 4) (l : Fin 128) :
    shapeCast S1x4x128 (Host.dynamicSlice S1x1x4x128 x f sliceFits_S128x1x4x128_S1x1x4x128) shapeCasts_S1x1x4x128_S1x4x128 (ix3 0 h l)
      = x (ix4 t 0 h l) := by
  have ht := t.isLt
  have c : ∀ k : Fin 4, Host.clampedStart S128x1x4x128 S1x1x4x128 rfl f k = if k = 0 then t.val else 0 := fun k =>
    Host.clampedStart_of_le _ _ _ _ (hf k) (by fin_cases k <;> simp [Shape.size] <;> omega)
  pointwise
  simp only [c, Fin.reduceEq, if_true, if_false, Nat.zero_add, Fin.eta]
  rfl

variable (W : At A t.val V)
include W

/-- The trip's queries. -/
theorem q_trip (h : Fin 4) (l d : Fin 128) : (res_main_while0b_v64 V : FVec Ideal S1x4x128x128 .f32) (ix4 0 h l d) = (A.chunk t h).q l d :=
  (slice_keys _ _ (start5 W.ctr) h l d).trans (W.q t h l d)

/-- The trip's keys. -/
theorem k_trip (h : Fin 4) (l d : Fin 128) : (res_main_while0b_v65 V : FVec Ideal S1x4x128x128 .f32) (ix4 0 h l d) = (A.chunk t h).k l d :=
  (slice_keys _ _ (start5 W.ctr) h l d).trans (W.k t h l d)

/-- The trip's values. -/
theorem v_trip (h : Fin 4) (l : Fin 128) (e : Fin 256) : (res_main_while0b_v66 V : FVec Ideal S1x4x128x256 .f32) (ix4 0 h l e) = (A.chunk t h).v l e :=
  (slice_values _ _ (start5 W.ctr) h l e).trans (W.v t h l e)

/-- The trip's input gates. -/
theorem ig_trip (h : Fin 4) (l : Fin 128) : (res_main_while0b_v67 V : FVec Ideal S1x4x128 .f32) (ix3 0 h l) = (A.chunk t h).ig l :=
  (slice_gates _ _ (start4 W.ctr) h l).trans (W.ig t h l)

/-- The trip's running sums of the log forget gates. -/
theorem b_trip (h : Fin 4) (l : Fin 128) : (res_main_while0b_v69 V : FVec Ideal S1x4x128 .f32) (ix3 0 h l) = (A.chunk t h).b l :=
  (cumsum_at _ _ _ _ (by pointwise) h l).trans
    (congrArg (runningSum · l) (funext fun j => (slice_gates _ _ (start4 W.ctr) h j).trans (W.lf t h j)))

end Cert.Proof.Mlstm

end
-- ==== Proof.MlstmOps.lean ====
/-
  The operations of the reference's loop body, read at an entry.
-/
module

public import proofs.«01_k».proof.Defs
public import proofs.«01_k».proof.Proof.MlstmSpec
public import proofs.«01_k».proof.Proof.Gen.MlstmReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.StableHlo Idealize.SL.Sem

namespace Cert.Proof.Mlstm

open Cert.MlstmReferenceIdeal Cert.MlstmReferenceIdeal.Gen Cert.MlstmReferenceIdeal.Value

/-! ### The trip's operations at an entry -/

/-- The maximum over a row's positions. -/
theorem max_row (x : FVec Ideal S1x4x128x128 .f32) (h : Fin 4) (l : Fin 128) :
    Host.reduce FloatOps.maximumf x (constant S_ .f32 0xFF800000#32) reducesTo_S1x4x128x128_S1x4x128_d3 h_S_ (ix3 0 h l)
      = Finset.univ.fold max lowest fun s => x (ix4 0 h l s) := by
  pointwise

/-- The maximum over a head's positions. -/
theorem max_head (x : FVec Ideal S1x4x128 .f32) (h : Fin 4) :
    Host.reduce FloatOps.maximumf x (constant S_ .f32 0xFF800000#32) reducesTo_S1x4x128_S1x4_d2 h_S_ (ix2 0 h)
      = Finset.univ.fold max lowest fun s => x (ix3 0 h s) := by
  pointwise

/-- A weighted score. -/
theorem score_pure (q k x : FVec Ideal S1x4x128x128 .f32) (y : FVec Ideal S1x4x128 .f32) (h : Fin 4) (l s : Fin 128) :
    mulf (Host.dotGeneral dot_S1x4x128x128_S1x4x128x128_S1x4x128x128_3_3_2_2_01_01 none q k) (Host.exp (subf x (broadcastInDim S1x4x128x128 ![0, 1, 2, 3] bcast_S1x4x128x1_S1x4x128x128_0_1_2_3 (broadcastInDim S1x4x128x1 ![0, 1, 2] bcast_S1x4x128_S1x4x128x1_0_1_2 y)))) (ix4 0 h l s)
      = (∑ x, q (ix4 0 h l x) * k (ix4 0 h s x)) * Ideal.exp (x (ix4 0 h l s) - y (ix3 0 h l)) := by
  pointwise

/-- A masked log weight. -/
theorem logD_pure (p : Vec Ideal S128x128 .i1) (b g : FVec Ideal S1x4x128 .f32) (h : Fin 4) (l s : Fin 128) :
    select (broadcastInDim S1x4x128x128 ![2, 3] bcast_S128x128_S1x4x128x128_2_3 p) (addf (subf (broadcastInDim S1x4x128x128 ![0, 1, 2, 3] bcast_S1x4x128x1_S1x4x128x128_0_1_2_3 (broadcastInDim S1x4x128x1 ![0, 1, 2] bcast_S1x4x128_S1x4x128x1_0_1_2 b)) (broadcastInDim S1x4x128x128 ![0, 1, 2, 3] bcast_S1x4x1x128_S1x4x128x128_0_1_2_3 (broadcastInDim S1x4x1x128 ![0, 1, 3] bcast_S1x4x128_S1x4x1x128_0_1_3 b))) (broadcastInDim S1x4x128x128 ![0, 1, 2, 3] bcast_S1x4x1x128_S1x4x128x128_0_1_2_3 (broadcastInDim S1x4x1x128 ![0, 1, 3] bcast_S1x4x128_S1x4x1x128_0_1_3 g))) (broadcastInDim S1x4x128x128 ![] bcast_S_S1x4x128x128 (id (constant S_ .f32 0xFF800000#32))) (ix4 0 h l s) = Scalar.select (p (ix2 l s)) (b (ix3 0 h l) - b (ix3 0 h s) + g (ix3 0 h s)) lowest := by
  pointwise
  rfl

/-- A running sum plus the state's stabilizer. -/
theorem top_pure (b : FVec Ideal S1x4x128 .f32) (y : FVec Ideal S1x4 .f32) (h : Fin 4) (l : Fin 128) :
    addf b (broadcastInDim S1x4x128 ![0, 1, 2] bcast_S1x4x1_S1x4x128_0_1_2 (broadcastInDim S1x4x1 ![0, 1] bcast_S1x4_S1x4x1_0_1 y)) (ix3 0 h l)
      = b (ix3 0 h l) + y (ix2 0 h) := by
  pointwise

/-- The last running sum. -/
theorem last_pure (b : FVec Ideal S1x4x128 .f32) (h : Fin 4) :
    shapeCast S1x4 (extractStridedSlice S1x4x1 ![0, 0, 127] b slices_S1x4x128_S1x4x1_0_0_127) shapeCasts_S1x4x1_S1x4 (ix2 0 h) = b (ix3 0 h 127) := by
  pointwise

/-- A log weight for the state. -/
theorem logW_pure (y : FVec Ideal S1x4 .f32) (b g : FVec Ideal S1x4x128 .f32) (h : Fin 4) (s : Fin 128) :
    addf (subf (broadcastInDim S1x4x128 ![0, 1, 2] bcast_S1x4x1_S1x4x128_0_1_2 (broadcastInDim S1x4x1 ![0, 1] bcast_S1x4_S1x4x1_0_1 y)) b) g (ix3 0 h s)
      = y (ix2 0 h) - b (ix3 0 h s) + g (ix3 0 h s) := by
  pointwise

/-- A weight for the state. -/
theorem weight_pure (x : FVec Ideal S1x4x128 .f32) (y : FVec Ideal S1x4 .f32) (h : Fin 4) (s : Fin 128) :
    Host.exp (subf x (broadcastInDim S1x4x128 ![0, 1, 2] bcast_S1x4x1_S1x4x128_0_1_2 (broadcastInDim S1x4x1 ![0, 1] bcast_S1x4_S1x4x1_0_1 y))) (ix3 0 h s)
      = Ideal.exp (x (ix3 0 h s) - y (ix2 0 h)) := by
  pointwise

/-- A matrix memory after a trip. -/
theorem memory_pure (y : FVec Ideal S1x4 .f32) (C v : FVec Ideal S1x4x128x256 .f32) (w : FVec Ideal S1x4x128 .f32) (k : FVec Ideal S1x4x128x128 .f32)
    (h : Fin 4) (d : Fin 128) (e : Fin 256) :
    addf (mulf (broadcastInDim S1x4x128x256 ![0, 1, 2, 3] bcast_S1x4x1x1_S1x4x128x256_0_1_2_3 (broadcastInDim S1x4x1x1 ![0, 1] bcast_S1x4_S1x4x1x1_0_1 y)) C) (Host.dotGeneral dot_S1x4x128x128_S1x4x128x256_S1x4x128x256_2_2_3_3_01_01 none (mulf (broadcastInDim S1x4x128x128 ![0, 1, 2, 3] bcast_S1x4x128x1_S1x4x128x128_0_1_2_3 (broadcastInDim S1x4x128x1 ![0, 1, 2] bcast_S1x4x128_S1x4x128x1_0_1_2 w)) k) v) (ix4 0 h d e)
      = y (ix2 0 h) * C (ix4 0 h d e) + ∑ s, w (ix3 0 h s) * k (ix4 0 h s d) * v (ix4 0 h s e) := by
  pointwise

/-- A normalizer after a trip. -/
theorem normalizer_pure (y : FVec Ideal S1x4 .f32) (n w : FVec Ideal S1x4x128 .f32) (k : FVec Ideal S1x4x128x128 .f32) (h : Fin 4) (d : Fin 128) :
    addf (mulf (broadcastInDim S1x4x128 ![0, 1, 2] bcast_S1x4x1_S1x4x128_0_1_2 (broadcastInDim S1x4x1 ![0, 1] bcast_S1x4_S1x4x1_0_1 y)) n) (Host.dotGeneral dot_S1x4x128_S1x4x128x128_S1x4x128_2_2_n_3_01_01 none w k) (ix3 0 h d)
      = y (ix2 0 h) * n (ix3 0 h d) + ∑ s, w (ix3 0 h s) * k (ix4 0 h s d) := by
  pointwise

/-- A trip's output. -/
theorem hidden_pure (s q : FVec Ideal S1x4x128x128 .f32) (v C : FVec Ideal S1x4x128x256 .f32) (a n y : FVec Ideal S1x4x128 .f32)
    (h : Fin 4) (l : Fin 128) (e : Fin 256) :
    broadcastInDim S1x1x4x128x256 ![1, 2, 3, 4] bcast_S1x4x128x256_S1x1x4x128x256_1_2_3_4 (Host.divf (addf (Host.dotGeneral dot_S1x4x128x128_S1x4x128x256_S1x4x128x256_3_2_2_3_01_01 none s v) (mulf (broadcastInDim S1x4x128x256 ![0, 1, 2, 3] bcast_S1x4x128x1_S1x4x128x256_0_1_2_3 (broadcastInDim S1x4x128x1 ![0, 1, 2] bcast_S1x4x128_S1x4x128x1_0_1_2 a)) (Host.dotGeneral dot_S1x4x128x128_S1x4x128x256_S1x4x128x256_3_2_2_3_01_01 none q C))) (broadcastInDim S1x4x128x256 ![0, 1, 2, 3] bcast_S1x4x128x1_S1x4x128x256_0_1_2_3 (broadcastInDim S1x4x128x1 ![0, 1, 2] bcast_S1x4x128_S1x4x128x1_0_1_2 (maximumf (Host.absf (addf (Host.reduceAdd s (constant S_ .f32 0x00000000#32) reducesTo_S1x4x128x128_S1x4x128_d3 h_S_) (mulf a (Host.dotGeneral dot_S1x4x128x128_S1x4x128_S1x4x128_3_2_2_n_01_01 none q n)))) (Host.exp (Host.negf y)))))) (ix5 0 0 h l e)
      = Ideal.div (∑ x, s (ix4 0 h l x) * v (ix4 0 h x e) + a (ix3 0 h l) * ∑ x, q (ix4 0 h l x) * C (ix4 0 h x e))
          (max (FloatOps.absf (F := Ideal) (φ := .f32) (∑ x, s (ix4 0 h l x) + a (ix3 0 h l) * ∑ x, q (ix4 0 h l x) * n (ix3 0 h x))) (Ideal.exp (-y (ix3 0 h l)))) := by
  pointwise

end Cert.Proof.Mlstm

end
-- ==== Proof.MlstmTrip.lean ====
/-
  One trip of the reference's loop: each array it carries, as one chunk of the recurrence has it.
-/
module

public import proofs.«01_k».proof.Defs
public import proofs.«01_k».proof.Proof.MlstmSpec
public import proofs.«01_k».proof.Proof.Gen.MlstmReferenceIdeal.Run
public import proofs.«01_k».proof.Proof.MlstmSlices
public import proofs.«01_k».proof.Proof.MlstmOps
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.StableHlo Idealize.SL.Sem

namespace Cert.Proof.Mlstm

open Cert.MlstmReferenceIdeal Cert.MlstmReferenceIdeal.Gen Cert.MlstmReferenceIdeal.Value

variable {A : Args} {t : Fin 128} {V : Valuation τ sig (Elt Ideal)}

/-- The stacked outputs with the counter's chunk put in. -/
theorem update_stack (x : FVec Ideal S128x1x4x128x256 .f32) (u : FVec Ideal S1x1x4x128x256 .f32) (f : Fin 5 → ℤ)
    (hf : ∀ k, f k = ((if k = 0 then t.val else 0 : ℕ) : ℤ)) (r : Fin 128) (h : Fin 4) (l : Fin 128) (e : Fin 256) :
    Host.dynamicUpdateSlice x u f updateFits_S128x1x4x128x256_S1x1x4x128x256 (ix5 r 0 h l e)
      = if r = t then u (ix5 0 0 h l e) else x (ix5 r 0 h l e) := by
  have ht := t.isLt
  have c : ∀ k : Fin 5, Host.clampedStart S128x1x4x128x256 S1x1x4x128x256 rfl f k = if k = 0 then t.val else 0 := fun k =>
    Host.clampedStart_of_le _ _ _ _ (hf k) (by fin_cases k <;> simp [Shape.size] <;> omega)
  rw [Host.dynamicUpdateSlice_apply]
  by_cases hr : r = t
  · subst hr
    rw [if_pos rfl, dif_pos]
    · pointwise
      simp only [c, Fin.reduceEq, if_true, if_false, Nat.sub_zero, Nat.sub_self, Fin.eta]
      rfl
    · intro a
      rw [c]
      fin_cases a
      · exact ⟨le_refl _, Nat.lt_succ_self _⟩
      · exact ⟨Nat.zero_le _, by show 0 < 0 + 1; omega⟩
      · exact ⟨Nat.zero_le _, by have := h.isLt; show h.val < 0 + 4; omega⟩
      · exact ⟨Nat.zero_le _, by have := l.isLt; show l.val < 0 + 128; omega⟩
      · exact ⟨Nat.zero_le _, by have := e.isLt; show e.val < 0 + 256; omega⟩
  · rw [if_neg hr, dif_neg]
    intro q
    have q0 := q 0
    rw [c] at q0
    have q1 : t.val ≤ r.val ∧ r.val < t.val + 1 := q0
    exact hr (Fin.ext (by omega))

variable (W : At A t.val V)
include W

/-- The trip's log weights. -/
theorem logD_trip (h : Fin 4) (l s : Fin 128) : (res_main_while0b_v78 V : FVec Ideal S1x4x128x128 .f32) (ix4 0 h l s) = (A.chunk t h).logD l s := by
  refine (logD_pure _ _ _ h l s).trans ?_
  rw [W.mask, b_trip W, b_trip W, ig_trip W, Chunk.logD]
  by_cases hs : s ≤ l <;> simp [hs, Scalar.select]

/-- The trip's running sums plus the state's stabilizer. -/
theorem top_trip (h : Fin 4) (l : Fin 128) : (res_main_while0b_v81 V : FVec Ideal S1x4x128 .f32) (ix3 0 h l) = (A.chunk t h).b l + (A.state h t.val).M := by
  refine (top_pure _ _ h l).trans ?_
  rw [b_trip W, W.M]

/-- The trip's row stabilizers. -/
theorem rowMax_trip (h : Fin 4) (l : Fin 128) :
    (res_main_while0b_v83 V : FVec Ideal S1x4x128 .f32) (ix3 0 h l) = (A.chunk t h).rowMax (A.state h t.val) l :=
  congrArg₂ (fun a b : EReal => max a b) (top_trip W h l) ((max_row _ h l).trans (by simp only [logD_trip W]))

/-- The trip's scores. -/
theorem score_trip (h : Fin 4) (l s : Fin 128) :
    (res_main_while0b_v89 V : FVec Ideal S1x4x128x128 .f32) (ix4 0 h l s) = (A.chunk t h).score (A.state h t.val) l s := by
  refine (score_pure _ _ _ _ h l s).trans ?_
  simp only [q_trip W, k_trip W, logD_trip W, rowMax_trip W, Chunk.score]

/-- The trip's weights of the state. -/
theorem inter_trip (h : Fin 4) (l : Fin 128) :
    (res_main_while0b_v91 V : FVec Ideal S1x4x128 .f32) (ix3 0 h l) = (A.chunk t h).inter (A.state h t.val) l :=
  congrArg Ideal.exp (congrArg₂ (· - ·) (top_trip W h l) (rowMax_trip W h l))

/-- The trip's last running sum. -/
theorem last_trip (h : Fin 4) : (res_main_while0b_v110 V : FVec Ideal S1x4 .f32) (ix2 0 h) = (A.chunk t h).b 127 :=
  (last_pure _ h).trans (b_trip W h 127)

/-- The trip's log weights for the state. -/
theorem logW_trip (h : Fin 4) (s : Fin 128) : (res_main_while0b_v114 V : FVec Ideal S1x4x128 .f32) (ix3 0 h s) = (A.chunk t h).logW s := by
  refine (logW_pure _ _ _ h s).trans ?_
  rw [last_trip W, b_trip W, ig_trip W, Chunk.logW]

/-- The trip's new stabilizer. -/
theorem newMax_trip (h : Fin 4) : (res_main_while0b_v117 V : FVec Ideal S1x4 .f32) (ix2 0 h) = (A.chunk t h).newMax (A.state h t.val) :=
  congrArg₂ (fun a b : EReal => max a b) (congrArg₂ (· + ·) (last_trip W h) (W.M h)) ((max_head _ h).trans (by simp only [logW_trip W]))

/-- The trip's weights for the state. -/
theorem weight_trip (h : Fin 4) (s : Fin 128) :
    (res_main_while0b_v121 V : FVec Ideal S1x4x128 .f32) (ix3 0 h s) = (A.chunk t h).weight (A.state h t.val) s := by
  refine (weight_pure _ _ h s).trans ?_
  rw [logW_trip W, newMax_trip W, Chunk.weight]

/-- The trip's decay. -/
theorem decay_trip (h : Fin 4) : (res_main_while0b_v124 V : FVec Ideal S1x4 .f32) (ix2 0 h) = (A.chunk t h).decay (A.state h t.val) :=
  congrArg Ideal.exp (congrArg₂ (· - ·) (congrArg₂ (· + ·) (last_trip W h) (W.M h)) (newMax_trip W h))

/-- The matrix memory after the trip. -/
theorem C_trip (h : Fin 4) (d : Fin 128) (e : Fin 256) :
    (step_main_v43_7 V : FVec Ideal S1x4x128x256 .f32) (ix4 0 h d e) = (A.state h (t.val + 1)).C d e := by
  refine (memory_pure _ _ _ _ _ h d e).trans ?_
  rw [Args.state_succ]
  simp only [decay_trip W, W.C, weight_trip W, k_trip W, v_trip W, Chunk.next, mul_comm (Chunk.weight _ _ _) (Chunk.k _ _ _)]

/-- The normalizer after the trip. -/
theorem n_trip (h : Fin 4) (d : Fin 128) : (step_main_v43_8 V : FVec Ideal S1x4x128 .f32) (ix3 0 h d) = (A.state h (t.val + 1)).n d := by
  refine (normalizer_pure _ _ _ _ h d).trans ?_
  rw [Args.state_succ]
  simp only [decay_trip W, W.n, weight_trip W, k_trip W, Chunk.next, mul_comm (Chunk.weight _ _ _) (Chunk.k _ _ _)]

/-- The stabilizer after the trip. -/
theorem M_trip (h : Fin 4) : (step_main_v43_9 V : FVec Ideal S1x4 .f32) (ix2 0 h) = (A.state h (t.val + 1)).M := by
  rw [Args.state_succ]
  exact newMax_trip W h

/-- The stacked outputs after the trip. -/
theorem out_trip (r : Fin 128) (h : Fin 4) (l : Fin 128) (e : Fin 256) :
    (step_main_v43_10 V : FVec Ideal S128x1x4x128x256 .f32) (ix5 r 0 h l e)
      = if r = t then A.hidden t h l e else (V (Proc.devRef .tc main_v43_10) : FVec Ideal S128x1x4x128x256 .f32) (ix5 r 0 h l e) := by
  refine (update_stack _ _ _ (start5 W.ctr) r h l e).trans ?_
  congr 1
  refine (hidden_pure _ _ _ _ _ _ _ h l e).trans ?_
  simp only [score_trip W, v_trip W, inter_trip W, q_trip W, W.C, W.n, rowMax_trip W]
  rw [← zero_sub]
  exact (Ideal.mul_one_div (scale_ne_zero A h t l)).symm

/-- One trip on. -/
theorem At.step : At A (t.val + 1) (STEP V) where
  q r h l d := by rw [STEP_main_v43_0]; exact W.q r h l d
  k r h l d := by rw [STEP_main_v43_1]; exact W.k r h l d
  v r h l e := by rw [STEP_main_v43_2]; exact W.v r h l e
  ig r h l := by rw [STEP_main_v43_3]; exact W.ig r h l
  lf r h l := by rw [STEP_main_v43_4]; exact W.lf r h l
  mask l s := by rw [STEP_main_v43_5]; exact W.mask l s
  ctr := by
    rw [STEP_main_v43_6, step_main_v43_6, W.ctr, Scf.iv_succ]
    rfl
  C h d e := by rw [STEP_main_v43_7]; exact C_trip W h d e
  n h d := by rw [STEP_main_v43_8]; exact n_trip W h d
  M h := by rw [STEP_main_v43_9]; exact M_trip W h

end Cert.Proof.Mlstm

end
-- ==== Proof.MlstmOut.lean ====
/-
  The operations after the reference's loop, read at an entry.
-/
module

public import proofs.«01_k».proof.Defs
public import proofs.«01_k».proof.Proof.MlstmSpec
public import proofs.«01_k».proof.Proof.Gen.MlstmReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.StableHlo Idealize.SL.Sem

namespace Cert.Proof.Mlstm

open Cert.MlstmReferenceIdeal Cert.MlstmReferenceIdeal.Gen Cert.MlstmReferenceIdeal.Value

/-- The stacked outputs, laid out by rows. -/
theorem rows_pure (X : FVec Ideal S128x1x4x128x256 .f32) (t l : Fin 128) (h : Fin 4) (e : Fin 256) :
    (transpose S1x16384x4x256 [0, 2, 1, 3] (shapeCast S1x4x16384x256 (transpose S1x4x128x128x256 [1, 2, 0, 3, 4] X transposes_S128x1x4x128x256_S1x4x128x128x256_1_2_0_3_4) shapeCasts_S1x4x128x128x256_S1x4x16384x256) transposes_S1x4x16384x256_S1x16384x4x256_0_2_1_3) (ix4 0 (row t l) h e) = X (ix5 t 0 h l e) := by
  unfold row
  pointwise

/-- The operations after the loop, at an entry. -/
theorem out_pure (Y : FVec Ideal S1x16384x4x256 .f32) (G : FVec Ideal S1024 .f32) (O : FVec Ideal S16384x1024 .f32) (r : Fin 16384) (h : Fin 4) (e : Fin 256) :
    (truncf .bf16 (mulf (shapeCast S16384x1024 (mulf (mulf Y (broadcastInDim S1x16384x4x256 ![0, 1, 2, 3] bcast_S1x16384x4x1_S1x16384x4x256_0_1_2_3 (Host.rsqrt (addf (Host.divf (broadcastInDim S1x16384x4x1 ![0, 1, 2] bcast_S1x16384x4_S1x16384x4x1_0_1_2 (Host.reduceAdd (mulf Y Y) (constant S_ .f32 0x00000000#32) reducesTo_S1x16384x4x256_S1x16384x4_d3 h_S_)) (broadcastInDim S1x16384x4x1 ![] bcast_S_S1x16384x4x1 (constant S_ .f32 0x43800000#32))) (broadcastInDim S1x16384x4x1 ![] bcast_S_S1x16384x4x1 (constant S_ .f32 0x358637BD#32)))))) (broadcastInDim S1x16384x4x256 ![0, 1, 2, 3] bcast_S1x1x4x256_S1x16384x4x256_0_1_2_3 (broadcastInDim S1x1x4x256 ![2, 3] bcast_S4x256_S1x1x4x256_2_3 (shapeCast S4x256 G shapeCasts_S1024_S4x256)))) shapeCasts_S1x16384x4x256_S16384x1024) O) bitsLt_bf16_f32 : FVec Ideal S16384x1024 .bf16) (ix2 r ⟨h.val * 256 + e.val, by omega⟩)
      = normed (fun x => Y (ix4 0 r h x)) e * G (ix1 ⟨h.val * 256 + e.val, by omega⟩) * O (ix2 r ⟨h.val * 256 + e.val, by omega⟩) := by
  unfold normed
  pointwise

end Cert.Proof.Mlstm

end
-- ==== Proof.MlstmLoop.lean ====
/-
  The reference's loop run to its end: its result, entry by entry.
-/
module

public import proofs.«01_k».proof.Defs
public import proofs.«01_k».proof.Proof.MlstmSpec
public import proofs.«01_k».proof.Proof.Gen.MlstmReferenceIdeal.Run
public import proofs.«01_k».proof.Proof.MlstmEntry
public import proofs.«01_k».proof.Proof.MlstmTrip
public import proofs.«01_k».proof.Proof.MlstmOut
public import proofs.«01_k».proof.Proof.MlstmKernelValue
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.StableHlo Idealize.SL.Sem

namespace Cert.Proof.Mlstm

open Cert.MlstmReferenceIdeal Cert.MlstmReferenceIdeal.Gen Cert.MlstmReferenceIdeal.Value

variable (m : (ℓ : Loc nD τ sig) → Buf (Elt Ideal) ℓ) (c : Dev nD)

/-- The loop's entry. -/
theorem at_entry : At (rargs m c) 0 (entryContents preI m c) where
  q t h l d := entry_q m c t l d h
  k t h l d := entry_k m c t l d h
  v t h l e := entry_v m c t l e h
  ig t h l := entry_ig m c t l h
  lf t h l := entry_lf m c t l h
  mask l s := entry_mask m c l s
  ctr := by rw [ctr_entry, Scf.iv_zero]
  C h d e := entry_C m c h d e
  n h d := entry_n m c h d
  M h := entry_M m c h

/-- The loop after any number of trips: what it carries, and the outputs it has stacked. -/
theorem at_trip : ∀ T : ℕ, T ≤ 128 → At (rargs m c) T (STEP^[T] (entryContents preI m c))
    ∧ ∀ (r : Fin 128) (h : Fin 4) (l : Fin 128) (e : Fin 256), r.val < T →
      (STEP^[T] (entryContents preI m c) (Proc.devRef .tc main_v43_10) : FVec Ideal S128x1x4x128x256 .f32) (ix5 r 0 h l e)
        = (rargs m c).hidden r h l e
  | 0, _ => ⟨at_entry m c, fun r _ _ _ hr => absurd hr (Nat.not_lt_zero _)⟩
  | T + 1, hT => by
    obtain ⟨W, O⟩ := at_trip T (by omega)
    have W' : At (rargs m c) (⟨T, by omega⟩ : Fin 128).val (STEP^[T] (entryContents preI m c)) := W
    rw [Function.iterate_succ_apply']
    refine ⟨W'.step, fun r h l e hr => ?_⟩
    rw [STEP_main_v43_10]
    refine (out_trip W' r h l e).trans ?_
    by_cases hrt : r = ⟨T, by omega⟩
    · rw [if_pos hrt, hrt]
    · rw [if_neg hrt]
      exact O r h l e (by
        have : r.val ≠ T := fun q => hrt (Fin.ext q)
        omega)

/-- The operations after the loop give the result, from the stacked outputs. -/
theorem result_at {A : Args} {V : Valuation τ sig (Elt Ideal)}
    (X : ∀ (t : Fin 128) (h : Fin 4) (l : Fin 128) (e : Fin 256),
      (V (Proc.devRef .tc main_v43_10) : FVec Ideal S128x1x4x128x256 .f32) (ix5 t 0 h l e) = A.hidden t h l e)
    (G : ∀ j : Fin 1024, (V (Proc.devRef .tc main_arg4) : FVec Ideal S1024 .f32) (ix1 j) = A.gain j)
    (O : ∀ (r : Fin 16384) (j : Fin 1024), (V (Proc.devRef .tc main_arg3) : FVec Ideal S16384x1024 .f32) (ix2 r j) = A.out r j)
    (r : Fin 16384) (j : Fin 1024) : (out_main_v63 V : FVec Ideal S16384x1024 .bf16) (ix2 r j) = A.entry r j := by
  obtain ⟨t, l, hr⟩ : ∃ t l : Fin 128, r = row t l :=
    ⟨⟨r.val / 128, by omega⟩, ⟨r.val % 128, by omega⟩, Fin.ext (by show r.val = r.val / 128 * 128 + r.val % 128; omega)⟩
  obtain ⟨h, e, hj⟩ : ∃ (h : Fin 4) (e : Fin 256), j = ⟨h.val * 256 + e.val, by omega⟩ :=
    ⟨⟨j.val / 256, by omega⟩, ⟨j.val % 256, by omega⟩, Fin.ext (by show j.val = j.val / 256 * 256 + j.val % 256; omega)⟩
  subst hr hj
  rw [Args.entry_eq A _ _ t h l e rfl rfl]
  refine (out_pure _ _ _ (row t l) h e).trans ?_
  rw [G, O]
  exact congrArg (fun f => normed f e * A.gain _ * A.out _ _) (funext fun x => (rows_pure _ t l h x).trans (X t h l x))

/-- The reference's result, entry by entry. -/
theorem reference_final : out_main_v63 (STEP^[128] (entryContents preI m c))
    = (show FVec Ideal S16384x1024 .bf16 from fun i => (rargs m c).entry (i 0) (i 1)) := by
  have X := (at_trip m c 128 le_rfl).2
  have G := iter_main_arg4 m c 128
  have O := iter_main_arg3 m c 128
  generalize STEP^[128] (entryContents preI m c) = V at X G O ⊢
  funext i
  have e : i = ix2 (i 0) (i 1) := by
    funext a
    match a with
    | ⟨0, _⟩ => rfl
    | ⟨1, _⟩ => rfl
  refine Eq.trans (congrArg (out_main_v63 V) e) (result_at (fun t h l e => X t h l e t.isLt) (fun j => ?_) (fun r j => ?_) (i 0) (i 1))
  · rw [G]
    rfl
  · rw [O]
    rfl

end Cert.Proof.Mlstm

end
-- ==== Proof.Mlstm.lean ====
/-
  The gated recurrence: the kernel's result and the reference's, one chunk after another, are the same.
-/
module

public import proofs.«01_k».proof.Defs
public import proofs.«01_k».proof.Proof.MlstmKernelValue
public import proofs.«01_k».proof.Proof.MlstmLoop
public import proofs.«01_k».proof.Proof.Gen.MlstmKernelIdeal.Value

@[expose] public section

set_option maxRecDepth 16384

noncomputable section

open Idealize.ShloMosaic Idealize.ShloMosaic.TcCoe Idealize.SL.Sem

namespace Cert.Proof.Mlstm

/-- The recurrence's kernel computes what its reference computes. -/
theorem claim : algebraic_MlstmKernelIdeal_MlstmReferenceIdeal := by
  intro m ρ m' ρ' hpre hagree
  refine ⟨fun c => (show FVec Ideal Cert.MlstmKernelIdeal.S16384x1024 .bf16 from fun i => (args m c).entry (i 0) (i 1)),
    (θ_run Cert.MlstmKernelIdeal.defs _ _).mono (fun r h c => ⟨(h c).1.trans (kernel_final m c), (h c).2⟩)
      (Cert.MlstmKernelIdeal.Value.run_blocks m ρ),
    (θ_run Cert.MlstmReferenceIdeal.defs _ _).mono (fun r h c => ⟨(h c).1.trans ((reference_final m' c).trans ?_), (h c).2⟩)
      (Cert.MlstmReferenceIdeal.Value.run m' ρ')⟩
  have e : rargs m' c = args m c := by
    obtain ⟨e0, e1, e2, e3, e4⟩ := hagree c
    unfold rargs args
    rw [e0, e1, e2, e3, e4]
  rw [e]

end Cert.Proof.Mlstm

end
-- ==== Proof.lean ====
module

public import proofs.«01_k».proof.Defs
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpKernelIdeal.Value
public import proofs.«01_k».proof.Proof.Gen.MlpReferenceIdeal
public import proofs.«01_k».proof.Proof.Gen.MlpReferenceIdeal.Run
public import proofs.«01_k».proof.Proof.Mlp
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Merge
public import proofs.«01_k».proof.Proof.Gen.OutprojKernel
public import proofs.«01_k».proof.Proof.Gen.OutprojKernel.Skeleton
public import proofs.«01_k».proof.Proof.Gen.OutprojKernel.Launch
public import proofs.«01_k».proof.Proof.Gen.OutprojKernel.Points
public import proofs.«01_k».proof.Proof.Gen.OutprojKernel.Frame
public import proofs.«01_k».proof.Proof.Gen.OutprojKernelIdeal
public import proofs.«01_k».proof.Proof.Gen.OutprojKernelIdeal.Skeleton
public import proofs.«01_k».proof.Proof.Gen.OutprojKernelIdeal.Launch
public import proofs.«01_k».proof.Proof.Gen.OutprojKernelIdeal.Points
public import proofs.«01_k».proof.Proof.Gen.OutprojKernelIdeal.Frame
public import proofs.«01_k».proof.Proof.Gen.OutprojKernelIdeal.Value
public import proofs.«01_k».proof.Proof.Gen.OutprojReferenceIdeal
public import proofs.«01_k».proof.Proof.Gen.OutprojReferenceIdeal.Run
public import proofs.«01_k».proof.Proof.Outproj
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Qkv
public import proofs.«01_k».proof.Proof.Gen.OutGateKernel
public import proofs.«01_k».proof.Proof.Gen.OutGateKernel.Skeleton
public import proofs.«01_k».proof.Proof.Gen.OutGateKernel.Launch
public import proofs.«01_k».proof.Proof.Gen.OutGateKernel.Points
public import proofs.«01_k».proof.Proof.Gen.OutGateKernel.Frame
public import proofs.«01_k».proof.Proof.Gen.OutGateKernelIdeal
public import proofs.«01_k».proof.Proof.Gen.OutGateKernelIdeal.Skeleton
public import proofs.«01_k».proof.Proof.Gen.OutGateKernelIdeal.Launch
public import proofs.«01_k».proof.Proof.Gen.OutGateKernelIdeal.Points
public import proofs.«01_k».proof.Proof.Gen.OutGateKernelIdeal.Frame
public import proofs.«01_k».proof.Proof.Gen.OutGateKernelIdeal.Value
public import proofs.«01_k».proof.Proof.Gen.OutGateReferenceIdeal
public import proofs.«01_k».proof.Proof.Gen.OutGateReferenceIdeal.Run
public import proofs.«01_k».proof.Proof.OutGate
public import proofs.«01_k».proof.Proof.Gen.IfKernel
public import proofs.«01_k».proof.Proof.Gen.IfKernel.Skeleton
public import proofs.«01_k».proof.Proof.Gen.IfKernel.Launch
public import proofs.«01_k».proof.Proof.Gen.IfKernel.Points
public import proofs.«01_k».proof.Proof.Gen.IfKernel.Frame
public import proofs.«01_k».proof.Proof.Gen.IfKernelIdeal
public import proofs.«01_k».proof.Proof.Gen.IfKernelIdeal.Skeleton
public import proofs.«01_k».proof.Proof.Gen.IfKernelIdeal.Launch
public import proofs.«01_k».proof.Proof.Gen.IfKernelIdeal.Points
public import proofs.«01_k».proof.Proof.Gen.IfKernelIdeal.Frame
public import proofs.«01_k».proof.Proof.Gen.IfKernelIdeal.Value
public import proofs.«01_k».proof.Proof.Gen.IfReferenceIdeal
public import proofs.«01_k».proof.Proof.Gen.IfReferenceIdeal.Run
public import proofs.«01_k».proof.Proof.If
public import proofs.«01_k».proof.Proof.Gen.QbKernel
public import proofs.«01_k».proof.Proof.Gen.QbKernel.Skeleton
public import proofs.«01_k».proof.Proof.Gen.QbKernel.Launch
public import proofs.«01_k».proof.Proof.Gen.QbKernel.Points
public import proofs.«01_k».proof.Proof.Gen.QbKernel.Frame
public import proofs.«01_k».proof.Proof.Gen.QbKernelIdeal
public import proofs.«01_k».proof.Proof.Gen.QbKernelIdeal.Skeleton
public import proofs.«01_k».proof.Proof.Gen.QbKernelIdeal.Launch
public import proofs.«01_k».proof.Proof.Gen.QbKernelIdeal.Points
public import proofs.«01_k».proof.Proof.Gen.QbKernelIdeal.Frame
public import proofs.«01_k».proof.Proof.Gen.QbKernelIdeal.Value
public import proofs.«01_k».proof.Proof.Gen.QbReferenceIdeal
public import proofs.«01_k».proof.Proof.Gen.QbReferenceIdeal.Run
public import proofs.«01_k».proof.Proof.Qb
public import proofs.«01_k».proof.Proof.Gen.KbKernel
public import proofs.«01_k».proof.Proof.Gen.KbKernel.Skeleton
public import proofs.«01_k».proof.Proof.Gen.KbKernel.Launch
public import proofs.«01_k».proof.Proof.Gen.KbKernel.Points
public import proofs.«01_k».proof.Proof.Gen.KbKernel.Frame
public import proofs.«01_k».proof.Proof.Gen.KbKernelIdeal
public import proofs.«01_k».proof.Proof.Gen.KbKernelIdeal.Skeleton
public import proofs.«01_k».proof.Proof.Gen.KbKernelIdeal.Launch
public import proofs.«01_k».proof.Proof.Gen.KbKernelIdeal.Points
public import proofs.«01_k».proof.Proof.Gen.KbKernelIdeal.Frame
public import proofs.«01_k».proof.Proof.Gen.KbKernelIdeal.Value
public import proofs.«01_k».proof.Proof.Gen.KbReferenceIdeal
public import proofs.«01_k».proof.Proof.Gen.KbReferenceIdeal.Run
public import proofs.«01_k».proof.Proof.Kb
public import proofs.«01_k».proof.Proof.Gen.VbKernel
public import proofs.«01_k».proof.Proof.Gen.VbKernel.Skeleton
public import proofs.«01_k».proof.Proof.Gen.VbKernel.Launch
public import proofs.«01_k».proof.Proof.Gen.VbKernel.Points
public import proofs.«01_k».proof.Proof.Gen.VbKernel.Frame
public import proofs.«01_k».proof.Proof.Gen.VbKernelIdeal
public import proofs.«01_k».proof.Proof.Gen.VbKernelIdeal.Skeleton
public import proofs.«01_k».proof.Proof.Gen.VbKernelIdeal.Launch
public import proofs.«01_k».proof.Proof.Gen.VbKernelIdeal.Points
public import proofs.«01_k».proof.Proof.Gen.VbKernelIdeal.Frame
public import proofs.«01_k».proof.Proof.Gen.VbKernelIdeal.Value
public import proofs.«01_k».proof.Proof.Gen.VbReferenceIdeal
public import proofs.«01_k».proof.Proof.Gen.VbReferenceIdeal.Run
public import proofs.«01_k».proof.Proof.Vb
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Norm
public import proofs.«01_k».proof.Proof.Gen.MlstmKernel
public import proofs.«01_k».proof.Proof.Gen.MlstmKernel.Skeleton
public import proofs.«01_k».proof.Proof.Gen.MlstmKernel.Launch
public import proofs.«01_k».proof.Proof.Gen.MlstmKernel.Points
public import proofs.«01_k».proof.Proof.Gen.MlstmKernel.Frame
public import proofs.«01_k».proof.Proof.Gen.MlstmKernelIdeal
public import proofs.«01_k».proof.Proof.Gen.MlstmKernelIdeal.Skeleton
public import proofs.«01_k».proof.Proof.Gen.MlstmKernelIdeal.Launch
public import proofs.«01_k».proof.Proof.Gen.MlstmKernelIdeal.Points
public import proofs.«01_k».proof.Proof.Gen.MlstmKernelIdeal.Frame
public import proofs.«01_k».proof.Proof.Gen.MlstmKernelIdeal.Value
public import proofs.«01_k».proof.Proof.Gen.MlstmReferenceIdeal
public import proofs.«01_k».proof.Proof.Gen.MlstmReferenceIdeal.Run
public import proofs.«01_k».proof.Proof.Mlstm
public import Idealize.ShloMosaic.Adequacy
public import Idealize.ShloMosaic.Init

@[expose] public section

noncomputable section

namespace Cert.Proof

open Idealize.ShloMosaic Idealize.SL.Sem

/-- The reference of Mlp ends at rest with its arguments unchanged. -/
theorem frameMlpReference : quiescent_MlpReferenceIdeal :=
  fun m ρ _ => (θ_run Cert.MlpReferenceIdeal.defs _ _).mono (fun r h => ⟨fun c => (h c).2, sem_eq_zero_of_no_sems (by decide) r.2⟩) (Cert.MlpReferenceIdeal.Value.run m ρ)

/-- The reference of Merge ends at rest with its arguments unchanged. -/
theorem frameMergeReference : quiescent_MergeReferenceIdeal :=
  fun m ρ _ => (θ_run Cert.MergeReferenceIdeal.defs _ _).mono (fun r h => ⟨fun c => (h c).2, sem_eq_zero_of_no_sems (by decide) r.2⟩) (Cert.MergeReferenceIdeal.Value.run m ρ)

/-- The reference of Outproj ends at rest with its arguments unchanged. -/
theorem frameOutprojReference : quiescent_OutprojReferenceIdeal :=
  fun m ρ _ => (θ_run Cert.OutprojReferenceIdeal.defs _ _).mono (fun r h => ⟨fun c => (h c).2.2, sem_eq_zero_of_no_sems (by decide) r.2⟩) (Cert.OutprojReferenceIdeal.Value.run m ρ)

/-- The reference of Qkv ends at rest with its arguments unchanged. -/
theorem frameQkvReference : quiescent_QkvReferenceIdeal :=
  fun m ρ _ => (θ_run Cert.QkvReferenceIdeal.defs _ _).mono (fun r h => ⟨fun c => (h c).2, sem_eq_zero_of_no_sems (by decide) r.2⟩) (Cert.QkvReferenceIdeal.Value.run m ρ)

/-- The reference of OutGate ends at rest with its arguments unchanged. -/
theorem frameOutGateReference : quiescent_OutGateReferenceIdeal :=
  fun m ρ _ => (θ_run Cert.OutGateReferenceIdeal.defs _ _).mono (fun r h => ⟨fun c => (h c).2, sem_eq_zero_of_no_sems (by decide) r.2⟩) (Cert.OutGateReferenceIdeal.Value.run m ρ)

/-- The reference of If ends at rest with its arguments unchanged. -/
theorem frameIfReference : quiescent_IfReferenceIdeal :=
  fun m ρ _ => (θ_run Cert.IfReferenceIdeal.defs _ _).mono (fun r h => ⟨fun c => (h c).2, sem_eq_zero_of_no_sems (by decide) r.2⟩) (Cert.IfReferenceIdeal.Value.run m ρ)

/-- The reference of Qb ends at rest with its arguments unchanged. -/
theorem frameQbReference : quiescent_QbReferenceIdeal :=
  fun m ρ _ => (θ_run Cert.QbReferenceIdeal.defs _ _).mono (fun r h => ⟨fun c => (h c).2, sem_eq_zero_of_no_sems (by decide) r.2⟩) (Cert.QbReferenceIdeal.Value.run m ρ)

/-- The reference of Kb ends at rest with its arguments unchanged. -/
theorem frameKbReference : quiescent_KbReferenceIdeal :=
  fun m ρ _ => (θ_run Cert.KbReferenceIdeal.defs _ _).mono (fun r h => ⟨fun c => (h c).2, sem_eq_zero_of_no_sems (by decide) r.2⟩) (Cert.KbReferenceIdeal.Value.run m ρ)

/-- The reference of Vb ends at rest with its arguments unchanged. -/
theorem frameVbReference : quiescent_VbReferenceIdeal :=
  fun m ρ _ => (θ_run Cert.VbReferenceIdeal.defs _ _).mono (fun r h => ⟨fun c => (h c).2, sem_eq_zero_of_no_sems (by decide) r.2⟩) (Cert.VbReferenceIdeal.Value.run m ρ)

/-- The reference of Norm ends at rest with its arguments unchanged. -/
theorem frameNormReference : quiescent_NormReferenceIdeal :=
  fun m ρ _ => (θ_run Cert.NormReferenceIdeal.defs _ _).mono (fun r h => ⟨fun c => (h c).2, sem_eq_zero_of_no_sems (by decide) r.2⟩) (Cert.NormReferenceIdeal.Value.run m ρ)

/-- The reference of Mlstm ends at rest with its arguments unchanged. -/
theorem frameMlstmReference : quiescent_MlstmReferenceIdeal :=
  fun m ρ _ => (θ_run Cert.MlstmReferenceIdeal.defs _ _).mono (fun r h => ⟨fun c => (h c).2, sem_eq_zero_of_no_sems (by decide) r.2⟩) (Cert.MlstmReferenceIdeal.Value.run m ρ)

/-- The claim. -/
theorem claim : Cert.Claim :=
  ⟨Cert.MlpKernel.Gen.facts,
    Cert.MlpKernelIdeal.Gen.facts,
    Cert.MlpReferenceIdeal.Gen.facts,
    Cert.MergeKernel.Gen.facts,
    Cert.MergeKernelIdeal.Gen.facts,
    Cert.MergeReferenceIdeal.Gen.facts,
    Cert.OutprojKernel.Gen.facts,
    Cert.OutprojKernelIdeal.Gen.facts,
    Cert.OutprojReferenceIdeal.Gen.facts,
    Cert.QkvKernel.Gen.facts,
    Cert.QkvKernelIdeal.Gen.facts,
    Cert.QkvReferenceIdeal.Gen.facts,
    Cert.OutGateKernel.Gen.facts,
    Cert.OutGateKernelIdeal.Gen.facts,
    Cert.OutGateReferenceIdeal.Gen.facts,
    Cert.IfKernel.Gen.facts,
    Cert.IfKernelIdeal.Gen.facts,
    Cert.IfReferenceIdeal.Gen.facts,
    Cert.QbKernel.Gen.facts,
    Cert.QbKernelIdeal.Gen.facts,
    Cert.QbReferenceIdeal.Gen.facts,
    Cert.KbKernel.Gen.facts,
    Cert.KbKernelIdeal.Gen.facts,
    Cert.KbReferenceIdeal.Gen.facts,
    Cert.VbKernel.Gen.facts,
    Cert.VbKernelIdeal.Gen.facts,
    Cert.VbReferenceIdeal.Gen.facts,
    Cert.NormKernel.Gen.facts,
    Cert.NormKernelIdeal.Gen.facts,
    Cert.NormReferenceIdeal.Gen.facts,
    Cert.MlstmKernel.Gen.facts,
    Cert.MlstmKernelIdeal.Gen.facts,
    Cert.MlstmReferenceIdeal.Gen.facts,
    fun m ρ _ => Cert.MlpKernel.Gen.frame m ρ,
    fun m ρ _ => Cert.MlpKernelIdeal.Gen.frame m ρ,
    frameMlpReference,
    fun m ρ _ => Cert.MergeKernel.Gen.frame m ρ,
    fun m ρ _ => Cert.MergeKernelIdeal.Gen.frame m ρ,
    frameMergeReference,
    fun m ρ _ => Cert.OutprojKernel.Gen.frame m ρ,
    fun m ρ _ => Cert.OutprojKernelIdeal.Gen.frame m ρ,
    frameOutprojReference,
    fun m ρ _ => Cert.QkvKernel.Gen.frame m ρ,
    fun m ρ _ => Cert.QkvKernelIdeal.Gen.frame m ρ,
    frameQkvReference,
    fun m ρ _ => Cert.OutGateKernel.Gen.frame m ρ,
    fun m ρ _ => Cert.OutGateKernelIdeal.Gen.frame m ρ,
    frameOutGateReference,
    fun m ρ _ => Cert.IfKernel.Gen.frame m ρ,
    fun m ρ _ => Cert.IfKernelIdeal.Gen.frame m ρ,
    frameIfReference,
    fun m ρ _ => Cert.QbKernel.Gen.frame m ρ,
    fun m ρ _ => Cert.QbKernelIdeal.Gen.frame m ρ,
    frameQbReference,
    fun m ρ _ => Cert.KbKernel.Gen.frame m ρ,
    fun m ρ _ => Cert.KbKernelIdeal.Gen.frame m ρ,
    frameKbReference,
    fun m ρ _ => Cert.VbKernel.Gen.frame m ρ,
    fun m ρ _ => Cert.VbKernelIdeal.Gen.frame m ρ,
    frameVbReference,
    fun m ρ _ => Cert.NormKernel.Gen.frame m ρ,
    fun m ρ _ => Cert.NormKernelIdeal.Gen.frame m ρ,
    frameNormReference,
    fun m ρ _ => Cert.MlstmKernel.Gen.frame m ρ,
    fun m ρ _ => Cert.MlstmKernelIdeal.Gen.frame m ρ,
    frameMlstmReference,
    trivial,
    Cert.Proof.Mlp.claim,
    trivial,
    Cert.Proof.Merge.claim,
    trivial,
    Cert.Proof.Outproj.claim,
    trivial,
    Cert.Proof.Qkv.claim,
    trivial,
    Cert.Proof.OutGate.claim,
    trivial,
    Cert.Proof.If.claim,
    trivial,
    Cert.Proof.Qb.claim,
    trivial,
    Cert.Proof.Kb.claim,
    trivial,
    Cert.Proof.Vb.claim,
    trivial,
    Cert.Proof.Norm.claim,
    trivial,
    Cert.Proof.Mlstm.claim⟩

end Cert.Proof

end
